-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4x1x1024 : Shape := ⟨3, ![4, 1, 1024]⟩
abbrev S4 : Shape := ⟨1, ![4]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S256x256 : Shape := ⟨2, ![256, 256]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S4x1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v187 : BitVec 32 := Scalar.subi v2 c1_i32_143
  let c4_i32_144 : BitVec 32 := 4#32
  let c0_i32_145 : BitVec 32 := 0#32
  let v188 : BitVec 1 := Scalar.cmpi .eq c4_i32_144 c0_i32_145
  let c1_i32_146 : BitVec 32 := 1#32
  let v189 : BitVec 32 := Scalar.select v188 c1_i32_146 c4_i32_144
  let v190 : BitVec 32 := Scalar.remsi v187 v189
  let c0_i32_148 : BitVec 32 := 0#32
  let v192 : BitVec 1 := Scalar.cmpi .slt v190 c0_i32_148
  let c0_i32_149 : BitVec 32 := 0#32
  let v193 : BitVec 1 := Scalar.cmpi .slt v189 c0_i32_149
  let v194 : BitVec 1 := Scalar.xori v192 v193
  let c0_i32_147 : BitVec 32 := 0#32
  let v191 : BitVec 1 := Scalar.cmpi .ne v190 c0_i32_147
  let v195 : BitVec 1 := Scalar.andi v194 v191
  let v196 : BitVec 32 := Scalar.addi v190 v189
  let v197 : BitVec 32 := Scalar.select v195 v196 v190
  let c1_i32_151 : BitVec 32 := 1#32
  let v198 : BitVec 32 := Scalar.muli v197 c1_i32_151
  let v199 : BitVec 32 := Scalar.addi c0_i32_152 v198
  v199.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_143 : BitVec 32 := 2#32
  let v187 : BitVec 32 := Scalar.subi v2 c2_i32_143
  let c4_i32_144 : BitVec 32 := 4#32
  let c0_i32_145 : BitVec 32 := 0#32
  let v188 : BitVec 1 := Scalar.cmpi .eq c4_i32_144 c0_i32_145
  let c1_i32_146 : BitVec 32 := 1#32
  let v189 : BitVec 32 := Scalar.select v188 c1_i32_146 c4_i32_144
  let v190 : BitVec 32 := Scalar.remsi v187 v189
  let c0_i32_148 : BitVec 32 := 0#32
  let v192 : BitVec 1 := Scalar.cmpi .slt v190 c0_i32_148
  let c0_i32_149 : BitVec 32 := 0#32
  let v193 : BitVec 1 := Scalar.cmpi .slt v189 c0_i32_149
  let v194 : BitVec 1 := Scalar.xori v192 v193
  let c0_i32_147 : BitVec 32 := 0#32
  let v191 : BitVec 1 := Scalar.cmpi .ne v190 c0_i32_147
  let v195 : BitVec 1 := Scalar.andi v194 v191
  let v196 : BitVec 32 := Scalar.addi v190 v189
  let v197 : BitVec 32 := Scalar.select v195 v196 v190
  let c1_i32_151 : BitVec 32 := 1#32
  let v198 : BitVec 32 := Scalar.muli v197 c1_i32_151
  let v199 : BitVec 32 := Scalar.addi c0_i32_152 v198
  v199.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v187 : BitVec 32 := Scalar.subi v2 c3_i32_143
  let c4_i32_144 : BitVec 32 := 4#32
  let c0_i32_145 : BitVec 32 := 0#32
  let v188 : BitVec 1 := Scalar.cmpi .eq c4_i32_144 c0_i32_145
  let c1_i32_146 : BitVec 32 := 1#32
  let v189 : BitVec 32 := Scalar.select v188 c1_i32_146 c4_i32_144
  let v190 : BitVec 32 := Scalar.remsi v187 v189
  let c0_i32_148 : BitVec 32 := 0#32
  let v192 : BitVec 1 := Scalar.cmpi .slt v190 c0_i32_148
  let c0_i32_149 : BitVec 32 := 0#32
  let v193 : BitVec 1 := Scalar.cmpi .slt v189 c0_i32_149
  let v194 : BitVec 1 := Scalar.xori v192 v193
  let c0_i32_147 : BitVec 32 := 0#32
  let v191 : BitVec 1 := Scalar.cmpi .ne v190 c0_i32_147
  let v195 : BitVec 1 := Scalar.andi v194 v191
  let v196 : BitVec 32 := Scalar.addi v190 v189
  let v197 : BitVec 32 := Scalar.select v195 v196 v190
  let c1_i32_151 : BitVec 32 := 1#32
  let v198 : BitVec 32 := Scalar.muli v197 c1_i32_151
  let v199 : BitVec 32 := Scalar.addi c0_i32_152 v198
  v199.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v44 : BitVec 32 := Scalar.addi v2 c1_i32_23
  let c4_i32_24 : BitVec 32 := 4#32
  let v45 : BitVec 1 := Scalar.cmpi .slt v44 c4_i32_24
  let v46 : BitVec 32 := Scalar.extui v45
  let c0_i32_29 : BitVec 32 := 0#32
  let v47 : BitVec 1 := Scalar.cmpi .ne v46 c0_i32_29
  v47

def k0_dev4 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v33 : BitVec 32 := Scalar.addi v2 c1_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c1_i32_143 : BitVec 32 := 1#32
  let v187 : BitVec 32 := Scalar.muli v43 c1_i32_143
  let v188 : BitVec 32 := Scalar.addi c0_i32_144 v187
  v188.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v59 : BitVec 32 := Scalar.addi v2 c2_i32_37
  let c4_i32_38 : BitVec 32 := 4#32
  let v60 : BitVec 1 := Scalar.cmpi .slt v59 c4_i32_38
  let v61 : BitVec 32 := Scalar.extui v60
  let c0_i32_43 : BitVec 32 := 0#32
  let v62 : BitVec 1 := Scalar.cmpi .ne v61 c0_i32_43
  v62

def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v48 : BitVec 32 := Scalar.addi v2 c2_i32_30
  let c4_i32_31 : BitVec 32 := 4#32
  let c0_i32_32 : BitVec 32 := 0#32
  let v49 : BitVec 1 := Scalar.cmpi .eq c4_i32_31 c0_i32_32
  let c1_i32_33 : BitVec 32 := 1#32
  let v50 : BitVec 32 := Scalar.select v49 c1_i32_33 c4_i32_31
  let v51 : BitVec 32 := Scalar.remsi v48 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let c1_i32_143 : BitVec 32 := 1#32
  let v187 : BitVec 32 := Scalar.muli v58 c1_i32_143
  let v188 : BitVec 32 := Scalar.addi c0_i32_144 v187
  v188.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_51 : BitVec 32 := 3#32
  let v74 : BitVec 32 := Scalar.addi v2 c3_i32_51
  let c4_i32_52 : BitVec 32 := 4#32
  let v75 : BitVec 1 := Scalar.cmpi .slt v74 c4_i32_52
  let v76 : BitVec 32 := Scalar.extui v75
  let c0_i32_57 : BitVec 32 := 0#32
  let v77 : BitVec 1 := Scalar.cmpi .ne v76 c0_i32_57
  v77

def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v63 : BitVec 32 := Scalar.addi v2 c3_i32_44
  let c4_i32_45 : BitVec 32 := 4#32
  let c0_i32_46 : BitVec 32 := 0#32
  let v64 : BitVec 1 := Scalar.cmpi .eq c4_i32_45 c0_i32_46
  let c1_i32_47 : BitVec 32 := 1#32
  let v65 : BitVec 32 := Scalar.select v64 c1_i32_47 c4_i32_45
  let v66 : BitVec 32 := Scalar.remsi v63 v65
  let c0_i32_49 : BitVec 32 := 0#32
  let v68 : BitVec 1 := Scalar.cmpi .slt v66 c0_i32_49
  let c0_i32_50 : BitVec 32 := 0#32
  let v69 : BitVec 1 := Scalar.cmpi .slt v65 c0_i32_50
  let v70 : BitVec 1 := Scalar.xori v68 v69
  let c0_i32_48 : BitVec 32 := 0#32
  let v67 : BitVec 1 := Scalar.cmpi .ne v66 c0_i32_48
  let v71 : BitVec 1 := Scalar.andi v70 v67
  let v72 : BitVec 32 := Scalar.addi v66 v65
  let v73 : BitVec 32 := Scalar.select v71 v72 v66
  let c1_i32_143 : BitVec 32 := 1#32
  let v187 : BitVec 32 := Scalar.muli v73 c1_i32_143
  let v188 : BitVec 32 := Scalar.addi c0_i32_144 v187
  v188.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S_, .bf16⟩
  | .hbm, ⟨2, _⟩ => ⟨S_, .bf16⟩
  | .hbm, ⟨3, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
# `Protocol`: who signals, copies and waits on which semaphore, and what is handed over

Four devices stand in a row. Device `c` sums its block of `x` by columns into slot 0 of its scratch buffer and
copies that row to every device behind it: the device `r` places behind receives it in its slot `r`. Before any
copy a device signals, to every device in front of it, that the slot that device will fill may be written.

Per device there are nine cells, each with one round:

* the barrier cell of `c`: one unit from each device `r` places behind `c`, handing `c` that device's slot `r`
  at whatever it holds; `c` waits for them one unit at a time, before its first copy;
* the send cell `r` of `c`: the row's credit when `c`'s copy to the device `r` places behind has been read; it
  hands back the share of slot 0 the copy was reading;
* the receive cell `r` of `c`: the row's credit when the copy from the device `r` places in front has landed; it
  hands `c` its slot `r` back, holding that device's column sums.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Writes
public import Idealize.ShloMosaic.Lib.ViewIndex
public import Idealize.ShloMosaic.Lib.ShareLeaves

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's copy of the rounds algebra: a duty is named by the distance `r` between its two devices. -/
abbrev UB : Type := URounds (GSem nD τ sig) (Fin 4)
/-- The staging library's copy beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The row of devices -/

/-- The device `r` places behind `c`, and the one `r` places in front, cyclically. -/
def up (c : Dev nD) (r : Fin 4) : Dev nD := ⟨(c.val + r.val) % 4, Nat.mod_lt _ (by decide)⟩
def dn (c : Dev nD) (r : Fin 4) : Dev nD := ⟨(c.val + (4 - r.val)) % 4, Nat.mod_lt _ (by decide)⟩

/-- There IS a device `r ≥ 1` places behind `c` in the row (without wrapping), respectively in front. -/
def hasUp (c : Dev nD) (r : Fin 4) : Prop := 1 ≤ r.val ∧ c.val + r.val < 4
def hasDn (c : Dev nD) (r : Fin 4) : Prop := 1 ≤ r.val ∧ r.val ≤ c.val
instance (c : Dev nD) (r : Fin 4) : Decidable (hasUp c r) := by unfold hasUp; infer_instance
instance (c : Dev nD) (r : Fin 4) : Decidable (hasDn c r) := by unfold hasDn; infer_instance

/-- The device in front of the one behind is the device itself. -/
theorem dn_up (c : Dev nD) (r : Fin 4) : dn (up c r) r = c := by revert c r; decide
/-- And the other way round. -/
theorem up_dn (c : Dev nD) (r : Fin 4) : up (dn c r) r = c := by revert c r; decide
/-- If there is a device `r` places behind `c`, it has `c` in front of it. -/
theorem hasDn_up {c : Dev nD} {r : Fin 4} (h : hasUp c r) : hasDn (up c r) r := by revert c r; decide
/-- If there is a device `r` places in front of `c`, it has `c` behind it. -/
theorem hasUp_dn {c : Dev nD} {r : Fin 4} (h : hasDn c r) : hasUp (dn c r) r := by revert c r; decide

/-- How many devices stand behind `c`. -/
def behind (c : Dev nD) : ℕ := 3 - c.val

/-! ## The cells -/

/-- The runtime's barrier semaphore; the send and receive semaphores of distance `r`. -/
abbrev barS : Sem sig := (SemArray.scalar (sig.barrier 0 rfl) : Sems sig S_).sem
def sendSem (r : Fin 4) : DmaSem sig := (⟨2 + r.val, by have := r.isLt; show 2 + r.val < 10; omega⟩ : Fin 10)
def recvSem (r : Fin 4) : DmaSem sig := (⟨6 + r.val, by have := r.isLt; show 6 + r.val < 10; omega⟩ : Fin 10)

abbrev barCell (c : Dev nD) : GSem nD τ sig := ((c : Thread nD τ), .reg barS)
abbrev sendCell (c : Dev nD) (r : Fin 4) : GSem nD τ sig := ((c : Thread nD τ), .dma (sendSem r))
abbrev recvCell (c : Dev nD) (r : Fin 4) : GSem nD τ sig := ((c : Thread nD τ), .dma (recvSem r))

/-- The kernel's own DMA semaphores: the four send, the four receive. -/
def osem (k : Fin 8) : SemLoc sig := .dma (⟨2 + k.val, by have := k.isLt; show 2 + k.val < 10; omega⟩ : Fin 10)
/-- All nine of a device's: its barrier, then those. -/
def csem (k : Fin 9) : SemLoc sig := if h : k.val = 0 then .reg barS else osem ⟨k.val - 1, by omega⟩
abbrev kcell (ck : Dev nD × Fin 9) : GSem nD τ sig := ((ck.1 : Thread nD τ), csem ck.2)

def barIx : Fin 9 := 0
def sendIx (r : Fin 4) : Fin 9 := ⟨1 + r.val, by omega⟩
def recvIx (r : Fin 4) : Fin 9 := ⟨5 + r.val, by omega⟩

/-- The semaphore of the barrier's index. -/
theorem csem_bar : csem barIx = .reg barS := rfl
/-- The semaphore of a send index. -/
theorem csem_send (r : Fin 4) : csem (sendIx r) = .dma (sendSem r) := by revert r; decide
/-- The semaphore of a receive index. -/
theorem csem_recv (r : Fin 4) : csem (recvIx r) = .dma (recvSem r) := by revert r; decide

/-- Different distances have different send semaphores. -/
theorem sendSem_inj {r r' : Fin 4} (h : sendSem r = sendSem r') : r = r' := by revert r r'; decide
/-- Different distances have different receive semaphores. -/
theorem recvSem_inj {r r' : Fin 4} (h : recvSem r = recvSem r') : r = r' := by revert r r'; decide
/-- No send semaphore is a receive semaphore. -/
theorem sendSem_ne_recvSem (r r' : Fin 4) : sendSem r ≠ recvSem r' := by revert r r'; decide

/-! ## The buffers -/

abbrev xM : Memref sig .tc .vmem S2048x1024 .bf16 := Memref.whole cc0_stg0_0
abbrev oM : Memref sig .tc .vmem S2048x1024 .bf16 := Memref.whole cc0_stg1_0
abbrev rM : Memref sig .tc .vmem S4x1x1024 .f32 := Memref.whole cc0_scratch0

/-- Slot `r` lies inside the scratch buffer. -/
theorem slot_inb (r : Fin 4) : ∀ a, (![r.val, 0, 0] : Fin 3 → Nat) a + S1x1x1024.size a ≤ S4x1x1024.size a := by
  revert r; decide
/-- Slot `r` of the scratch buffer: its row `r`. -/
abbrev sR (r : Fin 4) : Rect S4x1x1024 := Rect.unit (s := S4x1x1024) ![r.val, 0, 0] S1x1x1024.size (slot_inb r)
/-- The slot as the copies and waits name it: a matrix of one row. -/
abbrev slotM (r : Fin 4) : Memref sig .tc .vmem S1x1024 .f32 :=
  ((rM : Memref sig .tc .vmem S4x1x1024 .f32).slice (sR r) (fun _ => rfl)).squeeze S1x1024 squeezes_S1x1x1024_S1x1024

/-- The credit of a copy of one row. -/
def N : ℕ := (slotM 0).view.dmaCredit
/-- A row's credit is positive. -/
theorem N_pos : 0 < N := View.dmaCredit_pos _ (by decide)
/-- The credit of a copy of a slot is a row's. -/
theorem credit_slot (r : Fin 4) : (slotM r).view.dmaCredit = N := rfl

/-- The contents of the scratch buffer every slot of which holds the row `v`. -/
def slotBuf (v : FVec F S1x1x1024 .f32) : (cc0_scratch0 : Ref sig .tc).ty.Contents (Elt F) :=
  fun i => v (fun a => match a with | 0 => (0 : Fin 1) | 1 => (0 : Fin 1) | 2 => (i 2 : Fin 1024))

/-- A share `q` of slot `r` of device `c`, at contents `f` of the whole buffer. -/
def slotPts (c : Dev nD) (r : Fin 4) (q : PosShare TreeShare) (f : (cc0_scratch0 : Ref sig .tc).ty.Contents (Elt F)) : sProp 𝕄 :=
  ((rM : Memref sig .tc .vmem S4x1x1024 .f32).access (sR r)).loc (c : Thread nD τ)
    ↦[((rM : Memref sig .tc .vmem S4x1x1024 .f32).access (sR r)).set]{q} f
/-- The same at the row `v`. -/
def slotV (c : Dev nD) (r : Fin 4) (q : PosShare TreeShare) (v : FVec F S1x1x1024 .f32) : sProp 𝕄 := slotPts c r q (slotBuf v)
/-- Slot `r` of device `c`, whole, at whatever it holds. -/
def slotAny (c : Dev nD) (r : Fin 4) : sProp 𝕄 := iprop(∃ f, slotPts (F := F) c r fullShare f)

omit [FloatOps F] in
instance slotPts_storable (c : Dev nD) (r q f) : BI.Storable (upEmb : UEmb _ 𝕄) (slotPts (F := F) c r q f) := by
  unfold slotPts; infer_instance
omit [FloatOps F] in
instance slotV_storable (c : Dev nD) (r q v) : BI.Storable (upEmb : UEmb _ 𝕄) (slotV (F := F) c r q v) := by
  unfold slotV; infer_instance
omit [FloatOps F] in
instance slotAny_storable (c : Dev nD) (r) : BI.Storable (upEmb : UEmb _ 𝕄) (slotAny (F := F) c r) := by
  unfold slotAny; infer_instance

omit [FloatOps F] in
/-- Reading slot `r` of the canonical contents gives the row. -/
theorem read_slotBuf (r : Fin 4) (v : FVec F S1x1x1024 .f32) :
    ((rM : Memref sig .tc .vmem S4x1x1024 .f32).access (sR r)).read (Elt F) (slotBuf v) = v := by
  funext y
  show v _ = v y
  congr 1
  funext a
  have h0 : y 0 = (0 : Fin 1) := Subsingleton.elim (α := Fin 1) _ _
  have h1 : y 1 = (0 : Fin 1) := Subsingleton.elim (α := Fin 1) _ _
  match a with
  | 0 => exact h0.symm
  | 1 => exact h1.symm
  | 2 => exact Fin.ext (by show 0 + 1 * (y 2).val = (y 2).val; omega)

omit [FloatOps F] in
/-- What a slot holds is what it reads. -/
theorem slotPts_of_read (c : Dev nD) (r : Fin 4) (q : PosShare TreeShare) (f : (cc0_scratch0 : Ref sig .tc).ty.Contents (Elt F))
    (v : FVec F S1x1x1024 .f32) (h : ((rM : Memref sig .tc .vmem S4x1x1024 .f32).access (sR r)).read (Elt F) f = v) :
    (slotPts c r q f : sProp 𝕄) = slotV c r q v := by
  unfold slotV slotPts
  refine pointsTo_congr fun i hi => ?_
  obtain ⟨y, -, rfl⟩ := Finset.mem_map.mp hi
  have h' := congrFun (h.trans (read_slotBuf r v).symm) y
  rw [View.read_apply, View.read_apply] at h'
  exact (cast_inj _).mp h'

omit [FloatOps F] in
/-- A slot at any contents holds some row. -/
theorem slotAny_row (c : Dev nD) (r : Fin 4) : (slotAny c r : sProp 𝕄) ⊢ iprop(∃ v, slotV c r fullShare v) := by
  unfold slotAny
  iintro ⟨%f, H⟩
  iexists _
  ihave H' := (Entails.of_eq (slotPts_of_read c r fullShare f _ rfl)) $$ H
  iexact H'

omit [FloatOps F] in
/-- A slot that holds a known row is a slot that holds something. -/
theorem slotV_any (c : Dev nD) (r : Fin 4) (v : FVec F S1x1x1024 .f32) : (slotV c r fullShare v : sProp 𝕄) ⊢ slotAny c r := by
  unfold slotAny slotV
  iintro H
  iexists _
  iexact H

/-! ## Contents -/

/-- Device `c`'s block of `x`, as the staging leaves it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block: the row it copies out. -/
def tot (c : Dev nD) : FVec F S1x1x1024 .f32 := k0_pay1 (xstg m ρ c)

/-! ## The schedule -/

/-- What the unit of the device `r` places behind `c` hands `c`: that device's slot `r`. -/
def barPay (c : Dev nD) (r : Fin 4) : sProp 𝕄 := slotAny (up c r) r
/-- What the read end of `c`'s copy at distance `r` hands back: the share of slot 0 it was reading. -/
def sendPay (c : Dev nD) (r : Fin 4) : sProp 𝕄 := slotV c 0 (ShareLeaves.leaf 2 fullShare r) (tot m ρ c)
/-- What the landing at distance `r` hands `c`: its slot `r`, holding the sums of the device `r` places in front. -/
def recvPay (c : Dev nD) (r : Fin 4) : sProp 𝕄 := slotV c r fullShare (tot m ρ (dn c r))

instance barPay_storable (c : Dev nD) (r) : BI.Storable (upEmb : UEmb _ 𝕄) (barPay (F := F) c r) := by unfold barPay; infer_instance
instance sendPay_storable (c : Dev nD) (r) : BI.Storable (upEmb : UEmb _ 𝕄) (sendPay (F := F) m ρ c r) := by unfold sendPay; infer_instance
instance recvPay_storable (c : Dev nD) (r) : BI.Storable (upEmb : UEmb _ 𝕄) (recvPay (F := F) m ρ c r) := by unfold recvPay; infer_instance

/-- Duty `r` of cell `g`: on a barrier cell and on the send cell of distance `r` if there is a device `r` places behind,
    on the receive cell of distance `r` if there is one `r` places in front. -/
def isDuty (g : GSem nD τ sig) (r : Fin 4) : Prop :=
  (g.2 = .reg barS ∧ hasUp g.1.1 r) ∨ (g.2 = .dma (sendSem r) ∧ hasUp g.1.1 r) ∨ (g.2 = .dma (recvSem r) ∧ hasDn g.1.1 r)
instance (g : GSem nD τ sig) : DecidablePred (isDuty g) := fun r => by unfold isDuty; infer_instance

/-- One round, round 0: a unit per duty of a barrier cell, a row's credit per duty of a send or receive cell. -/
def sched : Rounds.Schedule (GSem nD τ sig) (Fin 4) 𝕄 where
  duties g n := if n = 0 ∧ g.1.2 = .tc then Finset.univ.filter (isDuty g) else ∅
  unitless _ := False
  amount g _ _ := if g.2 = .reg barS then 1 else N
  payload g _ r :=
    if g.2 = .reg barS then barPay g.1.1 r
    else if g.2 = .dma (sendSem r) then sendPay m ρ g.1.1 r
    else if g.2 = .dma (recvSem r) then recvPay m ρ g.1.1 r
    else iprop(emp)
  amount_pos g _ _ _ := by
    by_cases h : g.2 = .reg barS
    · rw [if_pos h]; exact Nat.one_pos
    · rw [if_neg h]; exact N_pos

instance sched_payload_storable (g : GSem nD τ sig) (n : ℕ) (r : Fin 4) :
    BI.Storable (upEmb : UEmb _ 𝕄) ((sched (F := F) m ρ).payload g n r) := by
  show BI.Storable upEmb (if g.2 = .reg barS then barPay g.1.1 r else if g.2 = .dma (sendSem r) then sendPay m ρ g.1.1 r
    else if g.2 = .dma (recvSem r) then recvPay m ρ g.1.1 r else iprop(emp))
  (repeat' split) <;> infer_instance

section Sched
variable (c : Dev nD) (r : Fin 4)

/-- No DMA semaphore is the barrier. -/
theorem dma_ne_bar (q : DmaSem sig) : (SemLoc.dma q : SemLoc sig) ≠ .reg barS := fun h => by cases h
/-- Different DMA semaphores are different semaphores. -/
theorem dma_inj {q q' : DmaSem sig} (h : (SemLoc.dma q : SemLoc sig) = .dma q') : q = q' := by cases h; rfl

/-- A barrier cell has a duty for every device behind. -/
theorem duties_bar : (sched (F := F) m ρ).duties (barCell c) 0 = Finset.univ.filter (hasUp c) := by
  dsimp only [sched]; rw [if_pos ⟨rfl, rfl⟩]
  refine Finset.filter_congr fun r _ => ⟨fun h => ?_, fun h => .inl ⟨rfl, h⟩⟩
  rcases h with h | h | h
  · exact h.2
  · exact h.2
  · exact absurd h.1.symm (dma_ne_bar _)

/-- A send cell has one duty, where there is a device that far behind. -/
theorem duties_send : (sched (F := F) m ρ).duties (sendCell c r) 0 = if hasUp c r then {r} else ∅ := by
  dsimp only [sched]; rw [if_pos ⟨rfl, rfl⟩]
  ext r'
  rw [Finset.mem_filter, show isDuty (sendCell c r) r' ↔ r' = r ∧ hasUp c r from
    ⟨fun h => by
      rcases h with h | h | h
      · exact absurd h.1 (dma_ne_bar _)
      · obtain rfl := sendSem_inj (dma_inj h.1); exact ⟨rfl, h.2⟩
      · exact absurd (dma_inj h.1) (sendSem_ne_recvSem _ _), fun h => by obtain ⟨rfl, h⟩ := h; exact .inr (.inl ⟨rfl, h⟩)⟩]
  by_cases h : hasUp c r
  · rw [if_pos h, Finset.mem_singleton]; exact ⟨fun h' => h'.2.1, fun h' => ⟨Finset.mem_univ _, h', h⟩⟩
  · rw [if_neg h]; exact ⟨fun h' => absurd h'.2.2 h, fun h' => absurd h' (Finset.notMem_empty _)⟩

/-- A receive cell has one duty, where there is a device that far in front. -/
theorem duties_recv : (sched (F := F) m ρ).duties (recvCell c r) 0 = if hasDn c r then {r} else ∅ := by
  dsimp only [sched]; rw [if_pos ⟨rfl, rfl⟩]
  ext r'
  rw [Finset.mem_filter, show isDuty (recvCell c r) r' ↔ r' = r ∧ hasDn c r from
    ⟨fun h => by
      rcases h with h | h | h
      · exact absurd h.1 (dma_ne_bar _)
      · exact absurd (dma_inj h.1).symm (sendSem_ne_recvSem _ _)
      · obtain rfl := recvSem_inj (dma_inj h.1); exact ⟨rfl, h.2⟩, fun h => by obtain ⟨rfl, h⟩ := h; exact .inr (.inr ⟨rfl, h⟩)⟩]
  by_cases h : hasDn c r
  · rw [if_pos h, Finset.mem_singleton]; exact ⟨fun h' => h'.2.1, fun h' => ⟨Finset.mem_univ _, h', h⟩⟩
  · rw [if_neg h]; exact ⟨fun h' => absurd h'.2.2 h, fun h' => absurd h' (Finset.notMem_empty _)⟩

/-- No cell has a duty after round 0. -/
theorem duties_later (g : GSem nD τ sig) : ∀ n, 1 ≤ n → (sched (F := F) m ρ).duties g n = ∅ :=
  fun n hn => by dsimp only [sched]; exact if_neg fun h => by omega

/-- A barrier duty is one unit. -/
theorem amount_bar : (sched (F := F) m ρ).amount (barCell c) 0 r = 1 := by dsimp only [sched]; exact if_pos rfl
/-- A copy's duty is a row's credit. -/
theorem amount_dma (q : DmaSem sig) : (sched (F := F) m ρ).amount ((c : Thread nD τ), .dma q) 0 r = N := by
  dsimp only [sched]; exact if_neg (dma_ne_bar _)

/-- The number of distances at which there is a device behind. -/
theorem card_hasUp : (Finset.univ.filter (hasUp c)).card = behind c := by revert c; decide

/-- A barrier cell expects one unit from every device behind. -/
theorem expect_bar : (sched (F := F) m ρ).expect (barCell c) 0 = behind c := by
  unfold Schedule.expect Schedule.amountOf
  rw [Finset.sum_congr rfl fun r _ => amount_bar m ρ c r, duties_bar, Finset.sum_const, card_hasUp, smul_eq_mul, mul_one]
/-- A send cell expects a row's credit, where a copy is made. -/
theorem expect_send (h : hasUp c r) : (sched (F := F) m ρ).expect (sendCell c r) 0 = N := by
  unfold Schedule.expect Schedule.amountOf; rw [duties_send, if_pos h, Finset.sum_singleton, amount_dma]
/-- A receive cell expects a row's credit, where a copy comes. -/
theorem expect_recv (h : hasDn c r) : (sched (F := F) m ρ).expect (recvCell c r) 0 = N := by
  unfold Schedule.expect Schedule.amountOf; rw [duties_recv, if_pos h, Finset.sum_singleton, amount_dma]

/-- What a barrier duty hands over. -/
theorem payload_bar : (sched (F := F) m ρ).payload (barCell c) 0 r = barPay c r := by dsimp only [sched]; rw [if_pos rfl]
/-- What a send duty hands back. -/
theorem payload_send : (sched (F := F) m ρ).payload (sendCell c r) 0 r = sendPay m ρ c r := by
  dsimp only [sched]; rw [if_neg (dma_ne_bar _), if_pos rfl]
/-- What a receive duty hands over. -/
theorem payload_recv : (sched (F := F) m ρ).payload (recvCell c r) 0 r = recvPay m ρ c r := by
  dsimp only [sched]
  rw [if_neg (dma_ne_bar _), if_neg (fun h => sendSem_ne_recvSem _ _ (dma_inj h).symm), if_pos rfl]

end Sched

/-! ## What each device owes at launch, and the levels -/

/-- The unit owed to the device `r` places in front, and the credit owed to the one `r` places behind, where there is one. -/
def sigO (c : Dev nD) (r : Fin 4) : CellTallies nD τ sig Unit := if hasDn c r then tallyAt (barCell (dn c r)) () 1 else 0
def sndO (c : Dev nD) (r : Fin 4) : CellTallies nD τ sig Unit := if hasUp c r then tallyAt (recvCell (up c r) r) () N else 0

/-- After the signals a device owes its copies; before them its units too. Summed so that each step pays the last summand. -/
def Osnd (c : Dev nD) : CellTallies nD τ sig Unit := sndO c 3 + sndO c 2 + sndO c 1
def O₀ (c : Dev nD) : CellTallies nD τ sig Unit := Osnd c + sigO c 3 + sigO c 2 + sigO c 1

def L (g : GSem nD τ sig) : Finset Unit := if g.1.2 = .tc then {()} else ∅
/-- Barrier cells at level 1, receive cells at 2, send and staging cells at 0. -/
def lv (g : GSem nD τ sig) (_ : Unit) : ℕ :=
  if g.2 = .reg barS then 1 else if ∃ r, g.2 = .dma (recvSem r) then 2 else 0

/-- No other thread's cells have levels. -/
theorem L_of_ne (g : GSem nD τ sig) (h : g.1.2 ≠ .tc) : L g = ∅ := if_neg h
/-- Every cell of a device's own thread has a level. -/
theorem L_tc (c : Dev nD) (sm : SemLoc sig) : L ((c : Thread nD τ), sm) = {()} := if_pos rfl
/-- A barrier cell's level. -/
theorem lv_bar (c : Dev nD) : lv (barCell c) () = 1 := if_pos rfl
/-- A receive cell's level. -/
theorem lv_recv (c : Dev nD) (r : Fin 4) : lv (recvCell c r) () = 2 := by
  unfold lv; rw [if_neg (dma_ne_bar _), if_pos ⟨r, rfl⟩]

/-- A copy's debt is to the receive cell that it lands on. -/
theorem sndO_pos {c : Dev nD} {r : Fin 4} {g : GSem nD τ sig} {u : Unit} (h : 0 < sndO c r g u) : g = recvCell (up c r) r := by
  unfold sndO at h
  split at h
  · rw [tallyAt_apply] at h
    by_contra hn
    rw [if_neg (fun h' => hn h'.1)] at h
    exact Nat.lt_irrefl 0 h
  · exact absurd h (Nat.lt_irrefl 0)
/-- A signal's debt is to the barrier cell that it raises. -/
theorem sigO_pos {c : Dev nD} {r : Fin 4} {g : GSem nD τ sig} {u : Unit} (h : 0 < sigO c r g u) : g = barCell (dn c r) := by
  unfold sigO at h
  split at h
  · rw [tallyAt_apply] at h
    by_contra hn
    rw [if_neg (fun h' => hn h'.1)] at h
    exact Nat.lt_irrefl 0 h
  · exact absurd h (Nat.lt_irrefl 0)

/-- After the signals, every debt is to a receive cell. -/
theorem Osnd_pos {c : Dev nD} {g : GSem nD τ sig} {u : Unit} (h : 0 < Osnd c g u) : ∃ r, g = recvCell (up c r) r := by
  unfold Osnd at h
  simp only [Pi.add_apply, Finsupp.add_apply] at h
  by_contra hn
  have h1 := Nat.eq_zero_of_not_pos fun h' => hn ⟨1, sndO_pos (c := c) (r := 1) (g := g) (u := u) h'⟩
  have h2 := Nat.eq_zero_of_not_pos fun h' => hn ⟨2, sndO_pos (c := c) (r := 2) (g := g) (u := u) h'⟩
  have h3 := Nat.eq_zero_of_not_pos fun h' => hn ⟨3, sndO_pos (c := c) (r := 3) (g := g) (u := u) h'⟩
  omega
/-- Every debt of the launch is to a receive cell or a barrier cell. -/
theorem O₀_pos {c : Dev nD} {g : GSem nD τ sig} {u : Unit} (h : 0 < O₀ c g u) :
    (∃ d r, g = recvCell d r) ∨ ∃ d, g = barCell d := by
  unfold O₀ at h
  simp only [Pi.add_apply, Finsupp.add_apply] at h
  by_contra hn
  rw [not_or] at hn
  have h0 := Nat.eq_zero_of_not_pos fun h' => hn.1 (let ⟨r, hr⟩ := Osnd_pos (c := c) (g := g) (u := u) h'; ⟨_, _, hr⟩)
  have h1 := Nat.eq_zero_of_not_pos fun h' => hn.2 ⟨_, sigO_pos (c := c) (r := 1) (g := g) (u := u) h'⟩
  have h2 := Nat.eq_zero_of_not_pos fun h' => hn.2 ⟨_, sigO_pos (c := c) (r := 2) (g := g) (u := u) h'⟩
  have h3 := Nat.eq_zero_of_not_pos fun h' => hn.2 ⟨_, sigO_pos (c := c) (r := 3) (g := g) (u := u) h'⟩
  omega

/-- A staging cell may be waited on whatever the device owes of its start. -/
theorem mayWait_stage (c : Dev nD) (q : DmaSem sig) (hq : ∀ r, q ≠ recvSem r) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, r, rfl⟩ | ⟨d, rfl⟩ <;> exact Finset.mem_singleton_self _)
      (fun p hp => by
        rw [Finset.mem_singleton.mp hp]; unfold lv
        rw [if_neg (dma_ne_bar _), if_neg (fun ⟨r, h⟩ => hq r (dma_inj h))])
      (fun g u hg => by
        rcases O₀_pos hg with ⟨d, r, rfl⟩ | ⟨d, rfl⟩
        · rw [lv_recv]; decide
        · rw [lv_bar]; decide)
  · rw [MayWait_zero]; iintro -; iempintro

/-- At its barrier waits a device owes receive cells only, which lie above. -/
theorem mayWait_bar (c : Dev nD) : (levAts L lv : sProp 𝕄) ⊢ MayWait (c : Thread nD τ) (.reg barS) () (Osnd c) :=
  MayOwe.of_cut (L := L) (lev := lv) 1 (fun p hp => by rw [Finset.mem_singleton.mp hp, L_tc]; exact Finset.mem_singleton_self _)
    (fun g u hg => by obtain ⟨r, rfl⟩ := Osnd_pos hg; exact Finset.mem_singleton_self _)
    (fun p hp => by rw [Finset.mem_singleton.mp hp]; exact le_of_eq (lv_bar c))
    (fun g u hg => by obtain ⟨r, rfl⟩ := Osnd_pos hg; rw [lv_recv]; decide)

end Cert.ScanProof

end
-- ==== Proof.Steps.lean ====
/-
# `Steps`: the rule of each conditional signal, copy and wait

Every signal, copy and wait of the kernel stands under a test on the device's place in the row: the device it
concerns exists or it doesn't. Each is met here once, both ways, for any distance `r`.
-/
module

public import proofs.«01_k».proof.Proof.Protocol

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

abbrev 𝒱₀ : Variants := Variants.none

/-! ## What all devices share -/

/-- One summand of an iterated conjunction, and a subset of it split off. -/
theorem bigSep_at {I : Type} [DecidableEq I] {s : Finset I} {i : I} (h : i ∈ s) {Φ : I → sProp 𝕄} : (bigSep s Φ : sProp 𝕄) ⊢ Φ i := bigSep_elim h
/-- A product split along a subset. -/
theorem bigSep_part {I : Type} [DecidableEq I] {s t : Finset I} (h : t ⊆ s) {Φ : I → sProp 𝕄} :
    bigSep s Φ = iprop(bigSep t Φ ∗ bigSep (s \ t) Φ) := bigSep_sdiff_split h

/-- Every cell's invariant, at the names `K`, and that every cell has reached round 0. -/
def records : sProp 𝕄 :=
  iprop(bigSep Finset.univ (fun ck => cellInv ER (sched m ρ) (K ck) (kcell ck)) ∗ bigSep Finset.univ (fun ck => reached ER (kcell ck) 0))

instance records_persistent : BI.Persistent (records (F := F) m ρ K) := by unfold records; infer_instance

/-- The records give every cell's invariant, -/
theorem records_inv (ck : Dev nD × Fin 9) : records m ρ K ⊢ cellInv ER (sched m ρ) (K ck) (kcell ck) := by
  unfold records
  iintro ⟨H, -⟩
  iapply (bigSep_at (Finset.mem_univ ck)) $$ H

/-- and that every cell has reached round 0. -/
theorem records_reached (ck : Dev nD × Fin 9) : records m ρ K ⊢ reached ER (kcell ck) 0 := by
  unfold records
  iintro ⟨-, H⟩
  iapply (bigSep_at (Finset.mem_univ ck)) $$ H

/-- The invariant of a barrier cell. -/
theorem inv_bar (c : Dev nD) : records m ρ K ⊢ cellInv ER (sched m ρ) (K (c, barIx)) (barCell c) := records_inv m ρ K (c, barIx)
/-- The invariant of a send cell. -/
theorem inv_send (c : Dev nD) (r : Fin 4) : records m ρ K ⊢ cellInv ER (sched m ρ) (K (c, sendIx r)) (sendCell c r) := by
  have h := records_inv m ρ K (c, sendIx r)
  rwa [show kcell (c, sendIx r) = sendCell c r from Prod.ext rfl (csem_send r)] at h
/-- The invariant of a receive cell. -/
theorem inv_recv (c : Dev nD) (r : Fin 4) : records m ρ K ⊢ cellInv ER (sched m ρ) (K (c, recvIx r)) (recvCell c r) := by
  have h := records_inv m ρ K (c, recvIx r)
  rwa [show kcell (c, recvIx r) = recvCell c r from Prod.ext rfl (csem_recv r)] at h
/-- A barrier cell has reached round 0. -/
theorem reached_bar (c : Dev nD) : records m ρ K ⊢ reached ER (barCell c) 0 := records_reached m ρ K (c, barIx)
/-- A send cell has reached round 0. -/
theorem reached_send (c : Dev nD) (r : Fin 4) : records m ρ K ⊢ reached ER (sendCell c r) 0 := by
  have h := records_reached m ρ K (c, sendIx r)
  rwa [show kcell (c, sendIx r) = sendCell c r from Prod.ext rfl (csem_send r)] at h
/-- A receive cell has reached round 0. -/
theorem reached_recv (c : Dev nD) (r : Fin 4) : records m ρ K ⊢ reached ER (recvCell c r) 0 := by
  have h := records_reached m ρ K (c, recvIx r)
  rwa [show kcell (c, recvIx r) = recvCell c r from Prod.ext rfl (csem_recv r)] at h

/-! ## What a device holds between steps -/

/-- What it still owes, whatever it has waited on. -/
def owesE (c : Dev nD) (O : CellTallies nD τ sig Unit) : sProp 𝕄 := iprop(∃ W, owes (c : Thread nD τ) O W)

/-- A cell whose last round has passed. -/
def done (g : GSem nD τ sig) : sProp 𝕄 := iprop(∃ R : ℕ, ⌜∀ n, R ≤ n → (sched (F := F) m ρ).duties g n = ∅⌝ ∗ atPos ER g R ∅ 0)

/-- The device's barrier cell when `j` units have been waited for: the units still to come and the slots come with
    those taken; after the last, all of them. -/
def barSt (c : Dev nD) (j : ℕ) : sProp 𝕄 :=
  if j < behind c then
    iprop(∃ S : Finset (Fin 4), ⌜S ⊆ (sched (F := F) m ρ).duties (barCell c) 0⌝ ∗ atPos ER (barCell c) 0 S j
      ∗ cred (tallyAt (barCell c) () (behind c - j)) ∗ bigSep S (fun r => (sched m ρ).payload (barCell c) 0 r))
  else iprop(done m ρ (barCell c) ∗ bigSep ((sched (F := F) m ρ).duties (barCell c) 0) (fun r => (sched m ρ).payload (barCell c) 0 r))

/-- Slot `r` of `c` once signalled: given away if there is a device in front to fill it. -/
def slotIf (c : Dev nD) (r : Fin 4) : sProp 𝕄 := if hasDn c r then iprop(emp) else slotAny (F := F) c r
/-- The slot `c`'s copy at distance `r` fills. -/
def avail (c : Dev nD) (r : Fin 4) : sProp 𝕄 := if hasUp c r then slotAny (F := F) (up c r) r else iprop(emp)
/-- The share of slot 0 set aside for the copy at distance `r`: out with the copy, or kept. -/
def sentIf (c : Dev nD) (r : Fin 4) : sProp 𝕄 :=
  if hasUp c r then iprop(cred (tallyAt (sendCell c r) () N)) else sendPay m ρ c r
/-- The credit of the landing at distance `r`. -/
def recvCred (c : Dev nD) (r : Fin 4) : sProp 𝕄 := if hasDn c r then iprop(cred (tallyAt (recvCell c r) () N)) else iprop(emp)
/-- Slot `r` after its wait: the sums of the device `r` places in front if there is one. -/
def landed (c : Dev nD) (r : Fin 4) (v : FVec F S1x1x1024 .f32) : sProp 𝕄 :=
  iprop(⌜hasDn c r → v = tot m ρ (dn c r)⌝ ∗ slotV c r fullShare v)

/-! ## The signal -/

set_option maxHeartbeats 800000 in
/-- The signal to the device `r` places in front, if there is one: it hands over slot `r`. -/
theorem step_signal (c : Dev nD) (r : Fin 4) {p : Prop} [Decidable p] (hp : p ↔ hasDn c r) (n : p → Dev nD) (hn : ∀ h, n h = dn c r)
    {k' : ℕ} (hk : 1 = k') (O₁ O : CellTallies nD τ sig Unit) (hO : O₁ = O + sigO c r) {Q : PUnit → sProp 𝕄} :
    iprop(records m ρ K ∗ owesE c O₁ ∗ dutyTok ER (barCell (dn c r)) 0 r ∗ slotAny c r
        ∗ ((owesE c O ∗ slotIf c r) -∗ Q ⟨⟩))
      ⊢ wp frame (wpE (defs₀ (F := F)) 𝒱₀ (c : Thread nD τ) none) Set.univ
          (if h : p then .op (.semSignal ((n h : Dev nD) : Thread nD τ) barS k') (fun _ => .ret PUnit.unit) else .ret PUnit.unit) Q := by
  subst hO hk
  iintro ⟨#HR, HO, Ht, Hs, Hk⟩
  by_cases h : p
  · rw [dif_pos h, hn h]
    unfold owesE slotIf sigO
    have hd := hp.mp h
    rw [if_pos hd, if_pos hd]
    icases HO with ⟨%W, HO⟩
    iapply (Rounds.wp_signal 𝒱₀ ER (sched m ρ) (c : Thread nD τ) none (dst := (dn c r : Thread nD τ)) (κ := K (dn c r, barIx))
        (d := r) (by rw [duties_bar]; exact Finset.mem_filter.mpr ⟨Finset.mem_univ _, hasUp_dn hd⟩) (amount_bar m ρ (dn c r) r) () O rfl)
      $$ [HO Ht Hs]
    · isplitr; · iapply (inv_bar m ρ K (dn c r)); iexact HR
      isplitl [HO]; · iexact HO
      isplitl [Ht]; · iexact Ht
      isplitl [Hs]
      · rw [payload_bar]; unfold barPay; rw [up_dn]; iexact Hs
      iapply (reached_bar m ρ K (dn c r)); iexact HR
    iintro HO
    rw [wp_ret]; imodintro
    iapply Hk
    isplitl [HO]; · iexists W; iexact HO
    iempintro
  · rw [dif_neg h, wp_ret]
    have hd := fun h' => h (hp.mpr h')
    imodintro
    iapply Hk
    unfold slotIf sigO
    rw [if_neg hd, if_neg hd, add_zero]
    isplitl [HO]; · iexact HO
    iexact Hs

/-! ## The barrier's waits -/

/-- Before the last unit has come: the units taken so far and what they handed over. -/
theorem barSt_of_lt {c : Dev nD} {j : ℕ} (h : j < behind c) : barSt (F := F) m ρ c j =
    iprop(∃ S : Finset (Fin 4), ⌜S ⊆ (sched (F := F) m ρ).duties (barCell c) 0⌝ ∗ atPos ER (barCell c) 0 S j
      ∗ cred (tallyAt (barCell c) () (behind c - j)) ∗ bigSep S (fun r => (sched m ρ).payload (barCell c) 0 r)) := if_pos h
/-- When all units have come: the cell is over, and every slot is handed over. -/
theorem barSt_of_le {c : Dev nD} {j : ℕ} (h : behind c ≤ j) : barSt (F := F) m ρ c j =
    iprop(done m ρ (barCell c) ∗ bigSep ((sched (F := F) m ρ).duties (barCell c) 0) (fun r => (sched m ρ).payload (barCell c) 0 r)) :=
  if_neg (Nat.not_lt.mpr h)

set_option maxHeartbeats 800000 in
/-- The wait for one more unit, if more than `j` devices stand behind. -/
theorem step_wait_bar (c : Dev nD) (j : ℕ) {p : Prop} [Decidable p] (hp : p ↔ j < behind c) {k' : ℕ} (hk : 1 = k') {Q : PUnit → sProp 𝕄} :
    iprop(records m ρ K ∗ levAts L lv ∗ owesE c (Osnd c) ∗ barSt m ρ c j ∗ ((owesE c (Osnd c) ∗ barSt m ρ c (j + 1)) -∗ Q ⟨⟩))
      ⊢ wp frame (wpE (defs₀ (F := F)) 𝒱₀ (c : Thread nD τ) none) Set.univ
          (if h : p then .op (.semWait barS k') (fun _ => .ret PUnit.unit) else .ret PUnit.unit) Q := by
  subst hk
  by_cases h : p
  · rw [dif_pos h]
    have hj := hp.mp h
    rw [barSt_of_lt m ρ hj]
    unfold owesE
    by_cases hj' : j + 1 < behind c
    · rw [barSt_of_lt m ρ hj']
      rw [show behind c - j = (behind c - (j + 1)) + 1 by omega]
      iintro ⟨#HR, #Hlev, ⟨%W, HO⟩, ⟨%S, %hS, Hat, Hc, Hpay⟩, Hk⟩
      ihave Hc' := (Entails.of_eq (congrArg cred (tallyAt_add (barCell c) () (behind c - (j + 1)) 1).symm)) $$ Hc
      ihave Hc2 := (cred_add _ _).1 $$ Hc'
      icases Hc2 with ⟨Hc, Hc1⟩
      iapply (Rounds.wp_wait 𝒱₀ ER (sched m ρ) (c : Thread nD τ) none (κ := K (c, barIx))
          (wpE_semWait_eq 𝒱₀ (c : Thread nD τ) none Set.univ) (Set.mem_univ _) (cr := Finsupp.single () 1) {(SemLoc.reg barS, ())}
          (O := Osnd c) (W := W) (R := 0) (m := j) (T := S) (Util.total_single _ _) (image_single_subset _ _ _)) $$ [Hc1 HO Hat]
      · isplitr; · iapply (inv_bar m ρ K c); iexact HR
        isplitl [Hc1]; · iexact Hc1
        isplitl [HO]; · iexact HO
        isplitr; · iapply (mayWait_bar c); iexact Hlev
        iexact Hat
      iintro %S' ⟨%hS', HO, Hat, Hp'⟩
      rw [wp_ret]; imodintro
      iapply Hk
      isplitl [HO]; · iexists _; iexact HO
      iexists S'
      isplitr; · ipureintro; exact hS'.2.1
      isplitl [Hat]; · iexact Hat
      isplitl [Hc]; · iexact Hc
      rw [bigSep_part hS'.1]
      isplitl [Hpay]; · iexact Hpay
      iexact Hp'
    · rw [barSt_of_le m ρ (Nat.not_lt.mp hj')]
      rw [show behind c - j = 1 by omega]
      iintro ⟨#HR, #Hlev, ⟨%W, HO⟩, ⟨%S, %hS, Hat, Hc, Hpay⟩, Hk⟩
      iapply (Rounds.wp_wait_rest_token 𝒱₀ ER (sched m ρ) (c : Thread nD τ) none (κ := K (c, barIx))
          (wpE_semWait_eq 𝒱₀ (c : Thread nD τ) none Set.univ) (Set.mem_univ _) () (O := Osnd c) (W := W) (R := 0) (m := j) (T := S)
          (by rw [expect_bar]; omega)) $$ [Hc HO Hat]
      · isplitr; · iapply (inv_bar m ρ K c); iexact HR
        isplitl [Hc]; · iexact Hc
        isplitl [HO]; · iexact HO
        isplitr; · iapply (mayWait_bar c); iexact Hlev
        iexact Hat
      iintro ⟨HO, Hat, -, Hp'⟩
      rw [wp_ret]; imodintro
      iapply Hk
      isplitl [HO]; · iexists _; iexact HO
      isplitl [Hat]
      · unfold done; iexists (0 + 1)
        isplitr; · ipureintro; exact duties_later m ρ (barCell c)
        iexact Hat
      rw [bigSep_part hS]
      isplitl [Hpay]; · iexact Hpay
      iexact Hp'
  · rw [dif_neg h, wp_ret]
    have hj := Nat.not_lt.mp fun h' => h (hp.mpr h')
    rw [barSt_of_le m ρ hj, barSt_of_le m ρ (Nat.le_succ_of_le hj)]
    iintro ⟨#HR, #Hlev, HO, Hb, Hk⟩
    imodintro
    iapply Hk
    isplitl [HO]; · iexact HO
    iexact Hb

/-! ## The copies -/

/-- What a copy of slot 0 leaves in the slot it fills. -/
theorem copied (d : Dev nD) (r : Fin 4) (v : FVec F S1x1x1024 .f32) (fd : (cc0_scratch0 : Ref sig .tc).ty.Contents (Elt F)) :
    (slotPts d r fullShare ((slotM r).view.write (Elt F) fd ((slotM 0).view.read (Elt F) (slotBuf v)) Finset.univ) : sProp 𝕄)
      = slotV d r fullShare v := by
  unfold slotV slotPts
  refine pointsTo_congr fun i hi => ?_
  have hi' : i ∈ (slotM r).view.set := by
    rw [View.set_reshape]; exact hi
  obtain ⟨y, -, rfl⟩ := Finset.mem_map.mp hi'
  rw [View.write_emb_of_mem _ _ (Finset.mem_univ y)]
  show v _ = v _
  rfl

/-- A slot named as the copies name it. -/
theorem slotM_pts (d : Dev nD) (r : Fin 4) (q : PosShare TreeShare) (f : (cc0_scratch0 : Ref sig .tc).ty.Contents (Elt F)) :
    ((slotM r).view.loc (d : Thread nD τ) ↦[(slotM r).view.set]{q} f : sProp 𝕄) = slotPts d r q f := by
  unfold slotPts; rw [View.set_reshape]

set_option maxHeartbeats 800000 in
/-- The copy of slot 0 to the device `r` places behind, if there is one. -/
theorem step_send (c : Dev nD) (r : Fin 4) {p : Prop} [Decidable p] (hp : p ↔ hasUp c r) (n : p → Dev nD) (hn : ∀ h, n h = up c r)
    {sS sV : DmaSem sig} (hS : sS = sendSem r) (hV : sV = recvSem r)
    (hsc : ∀ h : p, (slotM r : Memref sig (Dev.tc (n h) : Thread nD τ).2.kind .vmem S1x1024 .f32).view.ref.isScScratch = false)
    {hsrc : p → (slotM 0).view.WordExact} {hdst : p → (slotM r).view.WordExact}
    {hsem : ∀ h : p, DmaTarget.Typed .vmem (.dma sV) (.remote (Dev.tc (n h) : Thread nD τ) (slotM r : Memref sig (Dev.tc (n h) : Thread nD τ).2.kind .vmem S1x1024 .f32) (.dma sS) (hsc h))}
    (O₁ O : CellTallies nD τ sig Unit) (hO : O₁ = O + sndO c r) {Q : PUnit → sProp 𝕄} :
    iprop(records m ρ K ∗ owesE c O₁ ∗ avail c r ∗ sendPay m ρ c r ∗ dutyTok ER (sendCell c r) 0 r ∗ dutyTok ER (recvCell (up c r) r) 0 r
        ∗ ((owesE c O ∗ sentIf m ρ c r) -∗ Q ⟨⟩))
      ⊢ wp frame (wpE (defs₀ (F := F)) 𝒱₀ (c : Thread nD τ) none) Set.univ
          (if h : p then .op (.enqueueDma (slotM 0) (.remote (Dev.tc (n h) : Thread nD τ) (slotM r) (.dma sS) (hsc h)) (.dma sV) (hsrc h) (hdst h) (hsem h))
            (fun _ => .ret PUnit.unit) else .ret PUnit.unit) Q := by
  subst hO hS hV
  by_cases h : p
  · have hd := hp.mp h
    obtain ⟨n', hn'⟩ : ∃ n', n' = n h := ⟨_, rfl⟩
    rw [dif_pos h]
    generalize hsem h = hsem'
    generalize hsc h = hsc' at *
    revert hsem' hsc'
    rw [hn h]
    intro hsc' hsem'
    unfold owesE avail sentIf sndO slotAny
    rw [if_pos hd, if_pos hd, if_pos hd]
    iintro ⟨#HR, ⟨%W, HO⟩, ⟨%fd, Hd⟩, Hs, HtS, HtV, Hk⟩
    iapply (Rounds.wp_send_pointsTo 𝒱₀ ER (sched m ρ) (c : Thread nD τ) none (κ₁ := K (c, sendIx r)) (κ₂ := K (up c r, recvIx r))
      (r₁ := 0) (r₂ := 0) (d₁ := r) (d₂ := r) (c' := (up c r : Thread nD τ)) (sS := .dma (sendSem r)) (sem := .dma (recvSem r)) (src := slotM 0) (dst := slotM r) (hsc := hsc') (q := ShareLeaves.leaf 2 fullShare r) (fs := slotBuf (tot m ρ c)) (fd := fd)
      (by rw [duties_send, if_pos hd]; exact Finset.mem_singleton_self _) (by rw [duties_recv, if_pos (hasDn_up hd)]; exact Finset.mem_singleton_self _)
      () () N (credit_slot r) (amount_dma m ρ c r _) (amount_dma m ρ (up c r) r _) O rfl (W := W)
      (by rw [payload_send]; exact Entails.of_eq (slotM_pts c 0 _ _))
      (by
        rw [payload_recv]; unfold recvPay; rw [dn_up, ← copied (up c r) r (tot m ρ c) fd]
        exact Entails.of_eq (slotM_pts (up c r) r _ _))) $$ [Hs Hd HO HtS HtV]
    · isplitr; · iapply (inv_send m ρ K c r); iexact HR
      isplitr; · iapply (inv_recv m ρ K (up c r) r); iexact HR
      isplitl [Hs]
      · iapply (Entails.of_eq (show sendPay m ρ c r = _ from (slotM_pts c 0 _ _).symm)) $$ Hs
      isplitl [Hd]
      · iapply (Entails.of_eq (slotM_pts (up c r) r _ _).symm) $$ Hd
      isplitl [HO]; · iexact HO
      isplitl [HtS]; · iexact HtS
      isplitr; · iapply (reached_send m ρ K c r); iexact HR
      isplitl [HtV]; · iexact HtV
      iapply (reached_recv m ρ K (up c r) r); iexact HR
    iintro ⟨HcS, HO⟩
    rw [wp_ret]; imodintro
    iapply Hk
    isplitl [HO]; · iexists W; iexact HO
    iexact HcS
  · rw [dif_neg h, wp_ret]
    have hd := fun h' => h (hp.mpr h')
    unfold sentIf sndO
    rw [if_neg hd, if_neg hd, add_zero]
    iintro ⟨#HR, HO, Hd, Hs, HtS, HtV, Hk⟩
    imodintro
    iapply Hk
    isplitl [HO]; · iexact HO
    iexact Hs

/-! ## The waits for the copies -/

/-- All that a receive cell's round hands over. -/
theorem rest_recv (c : Dev nD) (r : Fin 4) (h : hasDn c r) :
    bigSep ((sched (F := F) m ρ).duties (recvCell c r) 0 \ ∅) (fun d => (sched (F := F) m ρ).payload (recvCell c r) 0 d) = recvPay m ρ c r := by
  rw [Finset.sdiff_empty, duties_recv, if_pos h, bigSep_singleton, payload_recv]
/-- All that a send cell's round hands back. -/
theorem rest_send (c : Dev nD) (r : Fin 4) (h : hasUp c r) :
    bigSep ((sched (F := F) m ρ).duties (sendCell c r) 0 \ ∅) (fun d => (sched (F := F) m ρ).payload (sendCell c r) 0 d) = sendPay m ρ c r := by
  rw [Finset.sdiff_empty, duties_send, if_pos h, bigSep_singleton, payload_send]

set_option maxHeartbeats 800000 in
/-- The wait for the landing at distance `r`, if there is a device `r` places in front. -/
theorem step_recv (c : Dev nD) (r : Fin 4) {p : Prop} [Decidable p] (hp : p ↔ hasDn c r)
    {sV : DmaSem sig} (hV : sV = recvSem r) {src dst : Memref sig .tc .vmem S1x1024 .f32} (hN : dst.view.dmaCredit = N)
    {hsrc : p → src.view.WordExact} {hdst : p → dst.view.WordExact} {Q : PUnit → sProp 𝕄} :
    iprop(records m ρ K ∗ owesE c 0 ∗ atPos ER (recvCell c r) 0 ∅ 0 ∗ recvCred c r ∗ slotIf c r
        ∗ ((owesE c 0 ∗ done m ρ (recvCell c r) ∗ ∃ v, landed m ρ c r v) -∗ Q ⟨⟩))
      ⊢ wp frame (wpE (defs₀ (F := F)) 𝒱₀ (c : Thread nD τ) none) Set.univ
          (if h : p then .op (.waitDma2 sV src dst (hsrc h) (hdst h)) (fun _ => .ret PUnit.unit) else .ret PUnit.unit) Q := by
  subst hV
  by_cases h : p
  · rw [dif_pos h]
    have hd := hp.mp h
    unfold owesE recvCred
    rw [if_pos hd]
    iintro ⟨#HR, ⟨%W, HO⟩, Hat, Hc, Hs, Hk⟩
    iapply (Rounds.wp_wait_rest_token 𝒱₀ ER (sched m ρ) (c : Thread nD τ) none (κ := K (c, recvIx r))
        (wpE_waitDma2_eq 𝒱₀ (c : Thread nD τ) none Set.univ) (Set.mem_univ _) () (O := 0) (W := W) (R := 0) (m := 0) (T := ∅)
        (by rw [Nat.zero_add, expect_recv m ρ c r hd]; exact hN)) $$ [Hc HO Hat]
    · isplitr; · iapply (inv_recv m ρ K c r); iexact HR
      isplitl [Hc]; · rw [hN]; iexact Hc
      isplitl [HO]; · iexact HO
      isplitr; · rw [MayWait_zero]; iempintro
      iexact Hat
    iintro ⟨HO, Hat, -, Hp⟩
    ihave Hp := (Entails.of_eq (rest_recv m ρ c r hd)) $$ Hp
    rw [wp_ret]; imodintro
    iapply Hk
    isplitl [HO]; · iexists _; iexact HO
    isplitl [Hat]
    · unfold done; iexists (0 + 1)
      isplitr; · ipureintro; exact duties_later m ρ (recvCell c r)
      iexact Hat
    iexists (tot m ρ (dn c r))
    unfold landed recvPay
    isplitr; · ipureintro; exact fun _ => rfl
    iexact Hp
  · rw [dif_neg h, wp_ret]
    have hd := fun h' => h (hp.mpr h')
    unfold slotIf landed
    rw [if_neg hd]
    iintro ⟨#HR, HO, Hat, Hc, Hs, Hk⟩
    imodintro
    iapply Hk
    isplitl [HO]; · iexact HO
    isplitl [Hat]
    · unfold done; iexists 0
      isplitr
      · ipureintro
        intro n _
        rcases Nat.eq_zero_or_pos n with rfl | hn
        · rw [duties_recv, if_neg hd]
        · exact duties_later m ρ _ n hn
      iexact Hat
    ihave Hs' := (slotAny_row c r) $$ Hs
    icases Hs' with ⟨%v, Hs⟩
    iexists v
    isplitr; · ipureintro; exact fun h' => absurd h' hd
    iexact Hs

set_option maxHeartbeats 800000 in
/-- The wait for the read end of the copy at distance `r`, if there is a device `r` places behind. -/
theorem step_wait_send (c : Dev nD) (r : Fin 4) {p : Prop} [Decidable p] (hp : p ↔ hasUp c r)
    {sS : DmaSem sig} (hS : sS = sendSem r) {src dst : Memref sig .tc .vmem S1x1024 .f32} (hN : dst.view.dmaCredit = N)
    {hsrc : p → src.view.WordExact} {hdst : p → dst.view.WordExact} {Q : PUnit → sProp 𝕄} :
    iprop(records m ρ K ∗ owesE c 0 ∗ atPos ER (sendCell c r) 0 ∅ 0 ∗ sentIf m ρ c r
        ∗ ((owesE c 0 ∗ done m ρ (sendCell c r) ∗ sendPay m ρ c r) -∗ Q ⟨⟩))
      ⊢ wp frame (wpE (defs₀ (F := F)) 𝒱₀ (c : Thread nD τ) none) Set.univ
          (if h : p then .op (.waitDma2 sS src dst (hsrc h) (hdst h)) (fun _ => .ret PUnit.unit) else .ret PUnit.unit) Q := by
  subst hS
  unfold sentIf
  by_cases h : p
  · rw [dif_pos h]
    have hd := hp.mp h
    unfold owesE
    rw [if_pos hd]
    iintro ⟨#HR, ⟨%W, HO⟩, Hat, Hc, Hk⟩
    iapply (Rounds.wp_wait_rest_token 𝒱₀ ER (sched m ρ) (c : Thread nD τ) none (κ := K (c, sendIx r))
        (wpE_waitDma2_eq 𝒱₀ (c : Thread nD τ) none Set.univ) (Set.mem_univ _) () (O := 0) (W := W) (R := 0) (m := 0) (T := ∅)
        (by rw [Nat.zero_add, expect_send m ρ c r hd]; exact hN)) $$ [Hc HO Hat]
    · isplitr; · iapply (inv_send m ρ K c r); iexact HR
      isplitl [Hc]; · rw [hN]; iexact Hc
      isplitl [HO]; · iexact HO
      isplitr; · rw [MayWait_zero]; iempintro
      iexact Hat
    iintro ⟨HO, Hat, -, Hp⟩
    ihave Hp := (Entails.of_eq (rest_send m ρ c r hd)) $$ Hp
    rw [wp_ret]; imodintro
    iapply Hk
    isplitl [HO]; · iexists _; iexact HO
    isplitl [Hat]
    · unfold done; iexists (0 + 1)
      isplitr; · ipureintro; exact duties_later m ρ (sendCell c r)
      iexact Hat
    iexact Hp
  · rw [dif_neg h, wp_ret]
    have hd := fun h' => h (hp.mpr h')
    rw [if_neg hd]
    iintro ⟨#HR, HO, Hat, Hc, Hk⟩
    imodintro
    iapply Hk
    isplitl [HO]; · iexact HO
    isplitl [Hat]
    · unfold done; iexists 0
      isplitr
      · ipureintro
        intro n _
        rcases Nat.eq_zero_or_pos n with rfl | hn
        · rw [duties_send, if_neg hd]
        · exact duties_later m ρ _ n hn
      iexact Hat
    iexact Hc

end Cert.ScanProof

end
-- ==== Proof.Parts.lean ====
/-
# `Parts`: the kernel's body, stretch by stretch

The printed body is six stretches. Each is run here on a device at any place in the row: the signals and the
column sums (`run_part1`), the last barrier wait and the copies (`run_part2`, `run_part3`), the landings and the
first block of rows (`run_part3`, `run_part4`), the other seven blocks (`run_part5`, `run_part6`), the waits for
the copies' read ends (`run_part6`).
-/
module

public import proofs.«01_k».proof.Proof.Steps

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The device's place as the kernel computes it -/

/-- The device's place in the row, as a word. -/
abbrev pw (c : Dev nD) : BitVec 32 := Scalar.remsi (Scalar.divsi (Dev.word c) 1#32) 4#32

/-- The words the stretches hand on: "fewer than four when `k` is added", "at least `k`". -/
abbrev upBit (c : Dev nD) (k : BitVec 32) : BitVec 1 := Scalar.cmpi .slt (Scalar.addi (pw c) k) 4#32
abbrev dnBit (c : Dev nD) (k : BitVec 32) : BitVec 1 := Scalar.cmpi .sge (pw c) k

/-- The printed condition of a signal holds where there is a device that far in front. -/
theorem cond1_iff (c : Dev nD) : k0_cond1 c = 1#1 ↔ hasDn c 1 := by revert c; decide
/-- The printed condition of a signal holds where there is a device that far in front. -/
theorem cond2_iff (c : Dev nD) : k0_cond2 c = 1#1 ↔ hasDn c 2 := by revert c; decide
/-- The printed condition of a signal holds where there is a device that far in front. -/
theorem cond3_iff (c : Dev nD) : k0_cond3 c = 1#1 ↔ hasDn c 3 := by revert c; decide
/-- The printed condition of a copy holds where there is a device that far behind. -/
theorem cond7_iff (c : Dev nD) : k0_cond7 c = 1#1 ↔ hasUp c 1 := by revert c; decide
/-- The printed condition of a copy holds where there is a device that far behind. -/
theorem cond8_iff (c : Dev nD) : k0_cond8 c = 1#1 ↔ hasUp c 2 := by revert c; decide
/-- The printed condition of a copy holds where there is a device that far behind. -/
theorem cond9_iff (c : Dev nD) : k0_cond9 c = 1#1 ↔ hasUp c 3 := by revert c; decide
/-- The bit tested around a wait for a copy's read end says that there is a device `r` places behind. -/
theorem upBit_iff (c : Dev nD) (r : Fin 4) (hr : 1 ≤ r.val) :
    Scalar.cmpi .ne (Scalar.extui (upBit c (BitVec.ofNat 32 r.val)) : BitVec 32) 0#32 = 1#1 ↔ hasUp c r := by revert c r; decide
/-- The bit tested around the barrier's wait `j` says that more than `j` devices are behind. -/
theorem upBit_iff_behind (c : Dev nD) (j : Fin 3) :
    Scalar.cmpi .ne (Scalar.extui (upBit c (BitVec.ofNat 32 (j.val + 1))) : BitVec 32) 0#32 = 1#1 ↔ j.val < behind c := by revert c j; decide
/-- The bit tested around a wait for a landing says that there is a device `r` places in front. -/
theorem dnBit_iff (c : Dev nD) (r : Fin 4) (hr : 1 ≤ r.val) :
    Scalar.cmpi .ne (Scalar.extui (dnBit c (BitVec.ofNat 32 r.val)) : BitVec 32) 0#32 = 1#1 ↔ hasDn c r := by revert c r; decide

/-- The signal at distance 1 goes to the device 1 places in front. -/
theorem dev1_eq (c : Dev nD) : ∀ h, (⟨k0_dev1 c, k0_dev1_lt c h⟩ : Dev nD) = dn c 1 :=
  fun h => Fin.ext (show k0_dev1 c = (dn c 1).val by revert h; revert c; decide)
/-- The signal at distance 2 goes to the device 2 places in front. -/
theorem dev2_eq (c : Dev nD) : ∀ h, (⟨k0_dev2 c, k0_dev2_lt c h⟩ : Dev nD) = dn c 2 :=
  fun h => Fin.ext (show k0_dev2 c = (dn c 2).val by revert h; revert c; decide)
/-- The signal at distance 3 goes to the device 3 places in front. -/
theorem dev3_eq (c : Dev nD) : ∀ h, (⟨k0_dev3 c, k0_dev3_lt c h⟩ : Dev nD) = dn c 3 :=
  fun h => Fin.ext (show k0_dev3 c = (dn c 3).val by revert h; revert c; decide)
/-- The copy at distance 1 goes to the device 1 places behind. -/
theorem dev4_eq (c : Dev nD) : ∀ h, (⟨k0_dev4 c, k0_dev4_lt c h⟩ : Dev nD) = up c 1 :=
  fun h => Fin.ext (show k0_dev4 c = (up c 1).val by revert h; revert c; decide)
/-- The copy at distance 2 goes to the device 2 places behind. -/
theorem dev5_eq (c : Dev nD) : ∀ h, (⟨k0_dev5 c, k0_dev5_lt c h⟩ : Dev nD) = up c 2 :=
  fun h => Fin.ext (show k0_dev5 c = (up c 2).val by revert h; revert c; decide)
/-- The copy at distance 3 goes to the device 3 places behind. -/
theorem dev6_eq (c : Dev nD) : ∀ h, (⟨k0_dev6 c, k0_dev6_lt c h⟩ : Dev nD) = up c 3 :=
  fun h => Fin.ext (show k0_dev6 c = (up c 3).val by revert h; revert c; decide)

/-! ## The staged block and its loads -/

def xPts (c : Dev nD) : sProp 𝕄 := ((c : Thread nD τ).loc cc0_stg0_0) ↦{fullShare} xstg m ρ c

/-- The two printed zero offsets are the zero function. -/
theorem hz2 : (![0, 0] : Fin 2 → Nat) = fun _ => 0 := funext fun a => by fin_cases a <;> rfl
/-- A load of the whole staged block reads the block. -/
theorem read_x (f : (cc0_stg0_0 : Ref sig .tc).ty.Contents (Elt F)) :
    (xM : Memref sig .tc .vmem S2048x1024 .bf16).view.readAt (Elt F)
      (Rect.unit (s := S2048x1024) ![0, 0] S2048x1024.size inb_S2048x1024_S2048x1024_0_0).toLoadRect f = f :=
  Memref.readAt_unit_zero (Elt F) cc0_stg0_0 hz2 _ f

/-- A printed conditional whose continuation stands in both branches: run the operation alone, then go on. -/
theorem run_when (c : Dev nD) {α : Type} {p : Prop} [Decidable p] (e : p → TpuEff nD τ sig (Elt F) Λ₀ .tc PUnit)
    (k : PUnit → Prog (TpuEff nD τ sig (Elt F) Λ₀ .tc) α) {Q : α → sProp 𝕄} :
    wp frame (wpE (defs₀ (F := F)) 𝒱₀ (c : Thread nD τ) none) Set.univ
        (if h : p then .op (e h) (fun _ => .ret PUnit.unit) else .ret PUnit.unit)
        (fun _ => wp frame (wpE (defs₀ (F := F)) 𝒱₀ (c : Thread nD τ) none) Set.univ (k ⟨⟩) Q)
      ⊢ wp frame (wpE (defs₀ (F := F)) 𝒱₀ (c : Thread nD τ) none) Set.univ (if h : p then .op (e h) k else k ⟨⟩) Q := by
  by_cases h : p
  · rw [dif_pos h, dif_pos h, show (Prog.op (e h) k) = ((Prog.op (e h) (fun _ => .ret PUnit.unit)) >>= k) from rfl, wp_bind]
  · rw [dif_neg h, dif_neg h]
    conv => rhs; rw [show k ⟨⟩ = ((Prog.ret PUnit.unit) >>= k) from rfl, wp_bind]

/-- A load of slot `r` reads the row that it holds. -/
theorem slot_load (c : Dev nD) (r : Fin 4) {α : Type} {hl : (rM : Memref sig .tc .vmem S4x1x1024 .f32).view.LoadsAt (sR r).toLoadRect}
    {k : ((sR r).toLoadRect.shape.Idx → Elt F .f32) → Prog (TpuEff nD τ sig (Elt F) Λ₀ .tc) α} {Q : α → sProp 𝕄} (v : FVec F S1x1x1024 .f32) :
    slotV c r fullShare v
      ⊢ iprop((slotV c r fullShare v -∗ wp frame (wpE (defs₀ (F := F)) 𝒱₀ (c : Thread nD τ) none) Set.univ (k v) Q)
          -∗ wp frame (wpE (defs₀ (F := F)) 𝒱₀ (c : Thread nD τ) none) Set.univ (.op (.load rM (sR r).toLoadRect hl) k) Q) := by
  have h : slotV c r fullShare v
      ⊢ iprop((slotV c r fullShare v -∗ wp frame (wpE (defs₀ (F := F)) 𝒱₀ (c : Thread nD τ) none) Set.univ
            (k (((rM : Memref sig .tc .vmem S4x1x1024 .f32).access (sR r)).read (Elt F) (slotBuf v))) Q)
          -∗ wp frame (wpE (defs₀ (F := F)) 𝒱₀ (c : Thread nD τ) none) Set.univ (.op (.load rM (sR r).toLoadRect hl) k) Q) :=
    wp_load_rect 𝒱₀ (c : Thread nD τ) none Set.univ (Finset.Subset.refl _)
  rw [read_slotBuf] at h
  exact h

/-- A store of a whole slot. -/
theorem slot_store (c : Dev nD) (r : Fin 4) {α : Type} {w v : FVec F S1x1x1024 .f32}
    {hx : ((rM : Memref sig .tc .vmem S4x1x1024 .f32).access (sR r)).Stores Finset.univ} {hm : Finset.univ = Finset.univ ∨ ∀ a, (sR r).stride a = 1}
    {k : PUnit → Prog (TpuEff nD τ sig (Elt F) Λ₀ .tc) α} {Q : α → sProp 𝕄} :
    slotV c r fullShare v
      ⊢ iprop((slotV c r fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store rM (sR r) w Finset.univ hx hm) k) Q) := by
  have e := slotPts_of_read c r fullShare _ w (View.read_write_univ (Val := Elt F)
    (v := (rM : Memref sig .tc .vmem S4x1x1024 .f32).access (sR r)) (slotBuf v) w)
  rw [← e]
  exact wp_store 𝒱₀ (c : Thread nD τ) none Set.univ (Finset.Subset.refl _)

/-! ## The blocks of rows -/

/-- The rows of block `b` lie inside the device's block. -/
theorem xR_inb (b : Fin 8) : ∀ a, (![256 * b.val, 0] : Fin 2 → Nat) a + S256x1024.size a ≤ S2048x1024.size a := by
  revert b; decide
/-- Rows `256 b` to `256 b + 255` of the device's block. -/
abbrev xR (b : Fin 8) : Rect S2048x1024 := Rect.unit (s := S2048x1024) ![256 * b.val, 0] S256x1024.size (xR_inb b)
/-- Those rows of the device's block. -/
def xblk (c : Dev nD) (b : Fin 8) : Vec F S256x1024 .bf16 :=
  (xM : Memref sig .tc .vmem S2048x1024 .bf16).view.readAt (Elt F) (xR b).toLoadRect (xstg m ρ c)

/-- What slot `r` holds when the device has waited for it: the column sums of the device `r` places in front.
    Where there is none, what stands here is never looked at. -/
def sl (c : Dev nD) (r : Fin 4) : FVec F S1x1x1024 .f32 := if hasDn c r then tot m ρ (dn c r) else tot m ρ c

/-- A slot's row as the kernel adds it: zeroes where there is no device `r` places in front. -/
def masked (c : Dev nD) (r : Fin 4) (v : FVec F S1x1x1024 .f32) : FVec F S1x1024 .f32 :=
  Scalar.select (dnBit c (BitVec.ofNat 32 r.val)) (shapeCast S1x1024 v shapeCasts_S1x1x1024_S1x1024 : FVec F S1x1024 .f32)
    (broadcast S1x1024 (Scalar.ofBits .f32 0x00000000#32 : F .f32) : FVec F S1x1024 .f32)

/-- Where no device is `r` places in front, the bit is zero. -/
theorem dnBit_of_not (c : Dev nD) (r : Fin 4) (hr : 1 ≤ r.val) (h : ¬ hasDn c r) : dnBit c (BitVec.ofNat 32 r.val) = 0#1 := by
  revert h; revert hr; revert r; revert c; decide
/-- Where there is one, it is one. -/
theorem dnBit_of (c : Dev nD) (r : Fin 4) (hr : 1 ≤ r.val) (h : hasDn c r) : dnBit c (BitVec.ofNat 32 r.val) = 1#1 := by
  revert h; revert hr; revert r; revert c; decide

/-- Slot `r` counts only where there is a device `r` places in front, so any value that agrees there may stand for it. -/
theorem masked_sl (c : Dev nD) (r : Fin 4) (hr : 1 ≤ r.val) (v : FVec F S1x1x1024 .f32) (hv : hasDn c r → v = tot m ρ (dn c r)) :
    masked c r v = masked c r (sl m ρ c r) := by
  by_cases h : hasDn c r
  · rw [hv h]; unfold sl; rw [if_pos h]
  · unfold masked; rw [dnBit_of_not c r hr h]; rfl

/-- The row added to every row of block `n`: the sums of the devices in front, then the last row of the block
    before. -/
def carry (c : Dev nD) : ℕ → FVec F S1x1024 .f32
  | 0 => addf (addf (addf (broadcast S1x1024 (Scalar.ofBits .f32 0x00000000#32 : F .f32) : FVec F S1x1024 .f32)
      (masked c 1 (sl m ρ c 1))) (masked c 2 (sl m ρ c 2))) (masked c 3 (sl m ρ c 3))
  | n + 1 => extractStridedSlice S1x1024 ![255, 0] (k0_pay7 k0_pay3 (carry c n) (xblk m ρ c (Fin.ofNat 8 n))) slices_S256x1024_o255_0_S1x1024
/-- Block `n` of the running sums, before it is rounded to the result's type. -/
def blk (c : Dev nD) (n : ℕ) : FVec F S256x1024 .f32 := k0_pay7 k0_pay3 (carry m ρ c n) (xblk m ρ c (Fin.ofNat 8 n))
/-- Block `b` of the result. -/
def outB (c : Dev nD) (b : Fin 8) : FVec F S256x1024 .bf16 := truncf .bf16 (blk m ρ c b.val) bitsLt_bf16_f32
/-- The write of block `b`. -/
def pc (c : Dev nD) (b : Fin 8) : View.Piece (Elt F) S2048x1024 .bf16 := ⟨xR b, outB m ρ c b⟩

/-- The sum of the devices in front from the three rows the slots hold. -/
theorem pay2_eq (c : Dev nD) (v : FVec F S1x1x1024 .f32) (hv : hasDn c 1 → v = tot m ρ (dn c 1)) :
    k0_pay2 (pw c) v = addf (broadcast S1x1024 (Scalar.ofBits .f32 0x00000000#32 : F .f32) : FVec F S1x1024 .f32) (masked c 1 (sl m ρ c 1)) := by
  rw [← masked_sl m ρ c 1 (by decide) v hv]; rfl
/-- The first block, from the three slots loaded before it. -/
theorem pay4_eq (c : Dev nD) (v w : FVec F S1x1x1024 .f32) (hv : hasDn c 2 → v = tot m ρ (dn c 2)) (hw : hasDn c 3 → w = tot m ρ (dn c 3)) :
    k0_pay4 (pw c) (addf (broadcast S1x1024 (Scalar.ofBits .f32 0x00000000#32 : F .f32) : FVec F S1x1024 .f32) (masked c 1 (sl m ρ c 1))) v w (xblk m ρ c 0)
      = blk m ρ c 0 := by
  unfold blk carry
  rw [← masked_sl m ρ c 2 (by decide) v hv, ← masked_sl m ρ c 3 (by decide) w hw]; rfl

/-- The result buffer after the writes `L` on whatever it held. -/
def oPts (c : Dev nD) (f : (cc0_stg1_0 : Ref sig .tc).ty.Contents (Elt F)) (L : List (View.Piece (Elt F) S2048x1024 .bf16)) : sProp 𝕄 :=
  ((c : Thread nD τ).loc cc0_stg1_0) ↦{fullShare} (oM : Memref sig .tc .vmem S2048x1024 .bf16).view.writes (Elt F) f L

/-- A load of block `b`'s rows of `x`. -/
theorem x_load (c : Dev nD) (b : Fin 8) {α : Type} {hl : (xM : Memref sig .tc .vmem S2048x1024 .bf16).view.LoadsAt (xR b).toLoadRect}
    {k : ((xR b).toLoadRect.shape.Idx → Elt F .bf16) → Prog (TpuEff nD τ sig (Elt F) Λ₀ .tc) α} {Q : α → sProp 𝕄} :
    xPts m ρ c
      ⊢ iprop((xPts m ρ c -∗ wp frame (wpE (defs₀ (F := F)) 𝒱₀ (c : Thread nD τ) none) Set.univ (k (xblk m ρ c b)) Q)
          -∗ wp frame (wpE (defs₀ (F := F)) 𝒱₀ (c : Thread nD τ) none) Set.univ (.op (.load xM (xR b).toLoadRect hl) k) Q) := by
  unfold xPts xblk
  exact wp_load 𝒱₀ (c : Thread nD τ) none Set.univ (m := xM) (r := (xR b).toLoadRect) (hl := hl) (k := k) (S := Finset.univ) (q := fullShare)
    (f := xstg m ρ c) (Finset.subset_univ _)

/-- A load of block `b`'s rows of the result buffer, whose value is not used. -/
theorem o_load (c : Dev nD) (b : Fin 8) (f : (cc0_stg1_0 : Ref sig .tc).ty.Contents (Elt F)) (L : List (View.Piece (Elt F) S2048x1024 .bf16)) {α : Type}
    {hl : (oM : Memref sig .tc .vmem S2048x1024 .bf16).view.LoadsAt (xR b).toLoadRect}
    {k : Prog (TpuEff nD τ sig (Elt F) Λ₀ .tc) α} {Q : α → sProp 𝕄} :
    oPts c f L
      ⊢ iprop((oPts c f L -∗ wp frame (wpE (defs₀ (F := F)) 𝒱₀ (c : Thread nD τ) none) Set.univ k Q)
          -∗ wp frame (wpE (defs₀ (F := F)) 𝒱₀ (c : Thread nD τ) none) Set.univ (.op (.load oM (xR b).toLoadRect hl) (fun _ => k)) Q) := by
  unfold oPts
  exact wp_load 𝒱₀ (c : Thread nD τ) none Set.univ (m := oM) (r := (xR b).toLoadRect) (hl := hl) (k := fun _ => k) (S := Finset.univ)
    (q := fullShare) (f := (oM : Memref sig .tc .vmem S2048x1024 .bf16).view.writes (Elt F) f L) (Finset.subset_univ _)

/-- A store of block `b` adds its write to those made. -/
theorem o_write (c : Dev nD) (r : Rect S2048x1024) (f : (cc0_stg1_0 : Ref sig .tc).ty.Contents (Elt F)) (L : List (View.Piece (Elt F) S2048x1024 .bf16)) {α : Type}
    {w : r.shape.Idx → Elt F .bf16}
    {hx : ((oM : Memref sig .tc .vmem S2048x1024 .bf16).access r).Stores Finset.univ} {hm : Finset.univ = Finset.univ ∨ ∀ a, r.stride a = 1}
    {k : PUnit → Prog (TpuEff nD τ sig (Elt F) Λ₀ .tc) α} {Q : α → sProp 𝕄} :
    oPts c f L
      ⊢ iprop((oPts c f (⟨r, w⟩ :: L) -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) := by
  unfold oPts
  exact wp_store_writes 𝒱₀ (c : Thread nD τ) none Set.univ (m := oM) (r := r) (w := w) (hx := hx) (hm := hm) (k := k)
    (S := Finset.univ) (f := f) (L := L) (Finset.subset_univ _)

/-- A store of block `b` into the result buffer. -/
theorem o_store (c : Dev nD) (b : Fin 8) (f : (cc0_stg1_0 : Ref sig .tc).ty.Contents (Elt F)) (L : List (View.Piece (Elt F) S2048x1024 .bf16)) {α : Type}
    {w : FVec F S256x1024 .bf16} (hw : w = outB m ρ c b)
    {hx : ((oM : Memref sig .tc .vmem S2048x1024 .bf16).access (xR b)).Stores Finset.univ} {hm : Finset.univ = Finset.univ ∨ ∀ a, (xR b).stride a = 1}
    {k : PUnit → Prog (TpuEff nD τ sig (Elt F) Λ₀ .tc) α} {Q : α → sProp 𝕄} :
    oPts c f L
      ⊢ iprop((oPts c f (pc m ρ c b :: L) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (xR b) w Finset.univ hx hm) k) Q) := by
  have e : pc m ρ c b = ⟨xR b, w⟩ := by rw [hw]; rfl
  rw [e]
  exact o_write c (xR b) f L

/-! ## Between the stretches -/

omit [FloatOps F] in
/-- A product over the four distances, written out. -/
theorem bigSep_four (Φ : Fin 4 → sProp 𝕄) : bigSep Finset.univ Φ = iprop(Φ 0 ∗ Φ 1 ∗ Φ 2 ∗ Φ 3) :=
  bigSep_univ_eq_bigSepL (I := Fin 4) [0, 1, 2, 3] (by decide) (by decide) Φ

/-- The barrier's waits over: the slots that the copies will fill. -/
theorem barSt_done (c : Dev nD) : barSt m ρ c 3 ⊢ iprop(done m ρ (barCell c) ∗ avail c 1 ∗ avail c 2 ∗ avail c 3) := by
  rw [barSt_of_le m ρ (show behind c ≤ 3 by unfold behind; omega), duties_bar, bigSep_filter, bigSep_four]
  unfold avail
  simp only [payload_bar, barPay]
  iintro ⟨Hd, -, H1, H2, H3⟩
  isplitl [Hd]; · iexact Hd
  isplitl [H1]; · iexact H1
  isplitl [H2]; · iexact H2
  iexact H3

/-- The sums as four read shares: one for each copy and one kept. -/
theorem slot0_shares (c : Dev nD) :
    (slotV c 0 fullShare (tot m ρ c) : sProp 𝕄) = iprop(sendPay m ρ c 0 ∗ sendPay m ρ c 1 ∗ sendPay m ρ c 2 ∗ sendPay m ρ c 3) := by
  unfold sendPay slotV slotPts
  rw [ShareLeaves.pointsTo_leaves _ _ 2 fullShare, show (Finset.univ : Finset (Fin (2 ^ 2))) = (Finset.univ : Finset (Fin 4)) from rfl]
  exact bigSep_four _

end Cert.ScanProof

end
-- ==== Proof.PartOne.lean ====
/-
# `PartOne`: the body's first stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The first stretch: the signals, the column sums, two barrier waits -/

set_option maxHeartbeats 1600000 in
/-- The first stretch, run. -/
theorem run_part1 (c : Dev nD) {Q : (Σ' (d0 : Dev nD) (v2 : BitVec 32) (v3 : Sems sig S_), BitVec 1) → sProp 𝕄} :
    iprop(records m ρ K ∗ levAts L lv ∗ owesE c (O₀ c)
        ∗ dutyTok ER (barCell (dn c 1)) 0 1 ∗ dutyTok ER (barCell (dn c 2)) 0 2 ∗ dutyTok ER (barCell (dn c 3)) 0 3
        ∗ slotAny c 0 ∗ slotAny c 1 ∗ slotAny c 2 ∗ slotAny c 3
        ∗ xPts m ρ c ∗ barSt m ρ c 0
        ∗ ((owesE c (Osnd c) ∗ slotIf c 1 ∗ slotIf c 2 ∗ slotIf c 3 ∗ slotV c 0 fullShare (tot m ρ c) ∗ xPts m ρ c ∗ barSt m ρ c 2)
            -∗ Q ⟨c, pw c, SemArray.scalar (sig.barrier 0 rfl), upBit c 3#32⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _)
            (Memref.whole cc0_scratch0) (Memref.isWhole_whole _) cc0_scratch1 cc0_scratch2) Q := by
  rw [k0_part1_eq_skeleton]; unfold k0_part1_skel
  simp only [semSignalWord, semWaitWord, Prog.lift, Prog.bind_op, Prog.bind_ret, Prog.pure_eq_ret, wp_deviceId, wp_bind]
  iintro ⟨#HR, #Hlev, HO, Ht1, Ht2, Ht3, Hs0, Hs1, Hs2, Hs3, Hx, Hb, Hk⟩
  iapply (run_when c)
  iapply (step_signal m ρ K c 1 (cond1_iff c) _ (dev1_eq c) (by decide) _ (Osnd c + sigO c 3 + sigO c 2) rfl)
  isplitr; · iexact HR
  isplitl [HO]; · iexact HO
  isplitl [Ht1]; · iexact Ht1
  isplitl [Hs1]; · iexact Hs1
  iintro ⟨HO, Hs1⟩
  iapply (run_when c)
  iapply (step_signal m ρ K c 2 (cond2_iff c) _ (dev2_eq c) (by decide) _ (Osnd c + sigO c 3) rfl)
  isplitr; · iexact HR
  isplitl [HO]; · iexact HO
  isplitl [Ht2]; · iexact Ht2
  isplitl [Hs2]; · iexact Hs2
  iintro ⟨HO, Hs2⟩
  iapply (run_when c)
  iapply (step_signal m ρ K c 3 (cond3_iff c) _ (dev3_eq c) (by decide) _ (Osnd c) rfl)
  isplitr; · iexact HR
  isplitl [HO]; · iexact HO
  isplitl [Ht3]; · iexact Ht3
  isplitl [Hs3]; · iexact Hs3
  iintro ⟨HO, Hs3⟩
  unfold xPts
  iapply (wp_load 𝒱₀ (c : Thread nD τ) none Set.univ (m := xM) (Finset.subset_univ _)) $$ Hx; iintro Hx
  rw [read_x]
  ihave Hs0 := (slotAny_row c 0) $$ Hs0
  icases Hs0 with ⟨%v0, Hs0⟩
  iapply (slot_load c 0 v0) $$ Hs0; iintro Hs0
  iapply (slot_store c 0) $$ Hs0; iintro Hs0
  iapply (run_when c)
  iapply (step_wait_bar m ρ K c 0 (upBit_iff_behind c 0) (by decide))
  isplitr; · iexact HR
  isplitr; · iexact Hlev
  isplitl [HO]; · iexact HO
  isplitl [Hb]; · iexact Hb
  iintro ⟨HO, Hb⟩
  iapply (run_when c)
  iapply (step_wait_bar m ρ K c 1 (upBit_iff_behind c 1) (by decide))
  isplitr; · iexact HR
  isplitr; · iexact Hlev
  isplitl [HO]; · iexact HO
  isplitl [Hb]; · iexact Hb
  iintro ⟨HO, Hb⟩
  rw [wp_ret]; imodintro
  iapply Hk
  isplitl [HO]; · iexact HO
  isplitl [Hs1]; · iexact Hs1
  isplitl [Hs2]; · iexact Hs2
  isplitl [Hs3]; · iexact Hs3
  isplitl [Hs0]; · iexact Hs0
  isplitl [Hx]; · iexact Hx
  iexact Hb

end Cert.ScanProof

end
-- ==== Proof.PartTwo.lean ====
/-
# `PartTwo`: the body's second stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The second stretch: the barrier's last wait, the first copy -/

set_option maxHeartbeats 1600000 in
/-- The second stretch, run. -/
theorem run_part2 (c : Dev nD) {Q : (Σ' (v43 : BitVec 32) (v58 : BitVec 32), BitVec 32) → sProp 𝕄} :
    iprop(records m ρ K ∗ levAts L lv ∗ owesE c (Osnd c) ∗ barSt m ρ c 2 ∗ slotV c 0 fullShare (tot m ρ c)
        ∗ dutyTok ER (sendCell c 1) 0 1 ∗ dutyTok ER (recvCell (up c 1) 1) 0 1
        ∗ (∀ a b, (owesE c (sndO c 3 + sndO c 2) ∗ done m ρ (barCell c) ∗ avail c 2 ∗ avail c 3 ∗ sendPay m ρ c 0 ∗ sendPay m ρ c 2 ∗ sendPay m ρ c 3
            ∗ sentIf m ρ c 1) -∗ Q ⟨a, b, Scalar.extui (upBit c 2#32)⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _)
            (Memref.whole cc0_scratch0) (Memref.isWhole_whole _) cc0_scratch1 cc0_scratch2
            c (pw c) (SemArray.scalar (sig.barrier 0 rfl)) (upBit c 3#32)) Q := by
  rw [k0_part2_eq_skeleton, slot0_shares]; unfold k0_part2_skel
  simp only [semSignalWord, semWaitWord, Prog.lift, Prog.bind_op, Prog.bind_ret, Prog.pure_eq_ret, wp_deviceId, wp_bind]
  iintro ⟨#HR, #Hlev, HO, Hb, ⟨Hp0, Hp1, Hp2, Hp3⟩, Hts1, Htr1, Hk⟩
  iapply (run_when c)
  iapply (step_wait_bar m ρ K c 2 (upBit_iff_behind c 2) (by decide))
  isplitr; · iexact HR
  isplitr; · iexact Hlev
  isplitl [HO]; · iexact HO
  isplitl [Hb]; · iexact Hb
  iintro ⟨HO, Hb⟩
  ihave Hb' := (barSt_done m ρ c) $$ Hb
  icases Hb' with ⟨Hd, Hv1, Hv2, Hv3⟩
  iapply (run_when c)
  iapply (step_send m ρ K c 1 (cond7_iff c) _ (dev4_eq c) (by decide) (by decide) _ _ (sndO c 3 + sndO c 2) rfl)
  isplitr; · iexact HR
  isplitl [HO]; · iexact HO
  isplitl [Hv1]; · iexact Hv1
  isplitl [Hp1]; · iexact Hp1
  isplitl [Hts1]; · iexact Hts1
  isplitl [Htr1]; · iexact Htr1
  iintro ⟨HO, Hc1⟩
  rw [wp_ret]; imodintro
  iapply Hk
  isplitl [HO]; · iexact HO
  isplitl [Hd]; · iexact Hd
  isplitl [Hv2]; · iexact Hv2
  isplitl [Hv3]; · iexact Hv3
  isplitl [Hp0]; · iexact Hp0
  isplitl [Hp2]; · iexact Hp2
  isplitl [Hp3]; · iexact Hp3
  iexact Hc1

end Cert.ScanProof

end
-- ==== Proof.PartThree.lean ====
/-
# `PartThree`: the body's third stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The third stretch: the other copies, the landing from the device in front -/

set_option maxHeartbeats 1600000 in
/-- The third stretch, run. -/
theorem run_part3 (c : Dev nD) (a b : BitVec 32) {Q : (Σ' (v73 : BitVec 32) (v87 : FVec F S1x1024 .f32), BitVec 32) → sProp 𝕄} :
    iprop(records m ρ K ∗ owesE c (sndO c 3 + sndO c 2) ∗ avail c 2 ∗ avail c 3 ∗ sendPay m ρ c 2 ∗ sendPay m ρ c 3
        ∗ dutyTok ER (sendCell c 2) 0 2 ∗ dutyTok ER (recvCell (up c 2) 2) 0 2 ∗ dutyTok ER (sendCell c 3) 0 3 ∗ dutyTok ER (recvCell (up c 3) 3) 0 3
        ∗ atPos ER (recvCell c 1) 0 ∅ 0 ∗ recvCred c 1 ∗ slotIf c 1
        ∗ (∀ a, (owesE c 0 ∗ sentIf m ρ c 2 ∗ sentIf m ρ c 3 ∗ done m ρ (recvCell c 1) ∗ slotAny c 1)
            -∗ Q ⟨a, addf (broadcast S1x1024 (Scalar.ofBits .f32 0x00000000#32 : F .f32) : FVec F S1x1024 .f32) (masked c 1 (sl m ρ c 1)),
                Scalar.extui (dnBit c 2#32)⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _)
            (Memref.whole cc0_scratch0) (Memref.isWhole_whole _) cc0_scratch1 cc0_scratch2
            c (pw c) a b (Scalar.extui (upBit c 2#32))) Q := by
  rw [k0_part3_eq_skeleton]; unfold k0_part3_skel
  simp only [semSignalWord, semWaitWord, Prog.lift, Prog.bind_op, Prog.bind_ret, Prog.pure_eq_ret, wp_deviceId, wp_bind]
  iintro ⟨#HR, HO, Hv2, Hv3, Hp2, Hp3, Hts2, Htr2, Hts3, Htr3, Hat, Hcr, Hs1, Hk⟩
  iapply (run_when c)
  iapply (step_send m ρ K c 2 (cond8_iff c) _ (dev5_eq c) (by decide) (by decide) _ _ (sndO c 3) rfl)
  isplitr; · iexact HR
  isplitl [HO]; · iexact HO
  isplitl [Hv2]; · iexact Hv2
  isplitl [Hp2]; · iexact Hp2
  isplitl [Hts2]; · iexact Hts2
  isplitl [Htr2]; · iexact Htr2
  iintro ⟨HO, Hc2⟩
  iapply (run_when c)
  iapply (step_send m ρ K c 3 (cond9_iff c) _ (dev6_eq c) (by decide) (by decide) _ _ 0 (zero_add _).symm)
  isplitr; · iexact HR
  isplitl [HO]; · iexact HO
  isplitl [Hv3]; · iexact Hv3
  isplitl [Hp3]; · iexact Hp3
  isplitl [Hts3]; · iexact Hts3
  isplitl [Htr3]; · iexact Htr3
  iintro ⟨HO, Hc3⟩
  iapply (run_when c)
  iapply (step_recv m ρ K c 1 (dnBit_iff c 1 (by decide)) (by decide) (by decide))
  isplitr; · iexact HR
  isplitl [HO]; · iexact HO
  isplitl [Hat]; · iexact Hat
  isplitl [Hcr]; · iexact Hcr
  isplitl [Hs1]; · iexact Hs1
  iintro ⟨HO, Hd, ⟨%v, Hl⟩⟩
  unfold landed
  icases Hl with ⟨%hv, Hl⟩
  iapply (slot_load c 1 v) $$ Hl; iintro Hl
  rw [wp_ret]; imodintro
  rw [pay2_eq m ρ c v hv]
  iapply Hk
  isplitl [HO]; · iexact HO
  isplitl [Hc2]; · iexact Hc2
  isplitl [Hc3]; · iexact Hc3
  isplitl [Hd]; · iexact Hd
  iapply (slotV_any c 1 v); iexact Hl

end Cert.ScanProof

end
-- ==== Proof.PartFour.lean ====
/-
# `PartFour`: the body's fourth stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The fourth stretch: the other landings, the first block -/

set_option maxHeartbeats 1600000 in
/-- The fourth stretch, run. -/
theorem run_part4 (c : Dev nD) (a b : BitVec 32) (f : (cc0_stg1_0 : Ref sig .tc).ty.Contents (Elt F))
    {Q : (Σ' (v111 : FVec F S256x256 .bf16), FVec F S1x1024 .f32) → sProp 𝕄} :
    iprop(records m ρ K ∗ owesE c 0 ∗ atPos ER (recvCell c 2) 0 ∅ 0 ∗ recvCred c 2 ∗ slotIf c 2 ∗ atPos ER (recvCell c 3) 0 ∅ 0 ∗ recvCred c 3 ∗ slotIf c 3
        ∗ xPts m ρ c ∗ oPts c f []
        ∗ ((owesE c 0 ∗ done m ρ (recvCell c 2) ∗ slotAny c 2 ∗ done m ρ (recvCell c 3) ∗ slotAny c 3 ∗ xPts m ρ c ∗ oPts c f [pc m ρ c 0])
            -∗ Q ⟨k0_pay3, carry m ρ c 1⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_scratch0) (Memref.isWhole_whole _) cc0_scratch1 cc0_scratch2
            (pw c) a b (addf (broadcast S1x1024 (Scalar.ofBits .f32 0x00000000#32 : F .f32) : FVec F S1x1024 .f32) (masked c 1 (sl m ρ c 1)))
            (Scalar.extui (dnBit c 2#32))) Q := by
  rw [k0_part4_eq_skeleton]; unfold k0_part4_skel
  simp only [semSignalWord, semWaitWord, Prog.lift, Prog.bind_op, Prog.bind_ret, Prog.pure_eq_ret, wp_deviceId, wp_bind]
  iintro ⟨#HR, HO, Hat2, Hcr2, Hs2, Hat3, Hcr3, Hs3, Hx, Ho, Hk⟩
  iapply (run_when c)
  iapply (step_recv m ρ K c 2 (dnBit_iff c 2 (by decide)) (by decide) (by decide))
  isplitr; · iexact HR
  isplitl [HO]; · iexact HO
  isplitl [Hat2]; · iexact Hat2
  isplitl [Hcr2]; · iexact Hcr2
  isplitl [Hs2]; · iexact Hs2
  iintro ⟨HO, Hd2, ⟨%v2, Hl2⟩⟩
  unfold landed
  icases Hl2 with ⟨%hv2, Hl2⟩
  iapply (slot_load c 2 v2) $$ Hl2; iintro Hl2
  iapply (run_when c)
  iapply (step_recv m ρ K c 3 (dnBit_iff c 3 (by decide)) (by decide) (by decide))
  isplitr; · iexact HR
  isplitl [HO]; · iexact HO
  isplitl [Hat3]; · iexact Hat3
  isplitl [Hcr3]; · iexact Hcr3
  isplitl [Hs3]; · iexact Hs3
  iintro ⟨HO, Hd3, ⟨%v3, Hl3⟩⟩
  unfold landed
  icases Hl3 with ⟨%hv3, Hl3⟩
  iapply (slot_load c 3 v3) $$ Hl3; iintro Hl3
  iapply (x_load m ρ c 0) $$ Hx; iintro Hx
  iapply (o_load c 0 f []) $$ Ho; iintro Ho
  have e4 := pay4_eq m ρ c v2 v3 hv2 hv3
  iapply (o_store m ρ c 0 f [] (congrArg (fun z => truncf .bf16 z bitsLt_bf16_f32) e4)) $$ Ho; iintro Ho
  rw [wp_ret]; imodintro
  have e6 : k0_pay6 (pw c) (addf (broadcast S1x1024 (Scalar.ofBits .f32 0x00000000#32 : F .f32) : FVec F S1x1024 .f32) (masked c 1 (sl m ρ c 1))) v2 v3
      (xblk m ρ c 0) = carry m ρ c 1 :=
    by unfold k0_pay6; rw [e4]; rfl
  rw [e6]
  iapply Hk
  isplitl [HO]; · iexact HO
  isplitl [Hd2]; · iexact Hd2
  isplitl [Hl2]; · iapply (slotV_any c 2 v2); iexact Hl2
  isplitl [Hd3]; · iexact Hd3
  isplitl [Hl3]; · iapply (slotV_any c 3 v3); iexact Hl3
  isplitl [Hx]; · iexact Hx
  iexact Ho

end Cert.ScanProof

end
-- ==== Proof.PartFive.lean ====
/-
# `PartFive`: the body's fifth stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The fifth stretch: four blocks -/

set_option maxHeartbeats 1600000 in
/-- The fifth stretch, run. -/
theorem run_part5 (c : Dev nD) (f : (cc0_stg1_0 : Ref sig .tc).ty.Contents (Elt F))
    {Q : (Σ' (v151 : FVec F S1x1024 .f32) (v153 : FVec F S256x1024 .bf16), FVec F S256x1024 .f32) → sProp 𝕄} :
    iprop(xPts m ρ c ∗ oPts c f [pc m ρ c 0]
        ∗ ((xPts m ρ c ∗ oPts c f [pc m ρ c 4, pc m ρ c 3, pc m ρ c 2, pc m ρ c 1, pc m ρ c 0])
            -∗ Q ⟨carry m ρ c 5, k0_pay16 (xblk m ρ c 5), constant S256x1024 .f32 0x00000000#32⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            (Memref.whole cc0_scratch0) (Memref.isWhole_whole _) cc0_scratch1 cc0_scratch2
            k0_pay3 (carry m ρ c 1)) Q := by
  rw [k0_part5_eq_skeleton]; unfold k0_part5_skel
  simp only [semSignalWord, semWaitWord, Prog.lift, Prog.bind_op, Prog.bind_ret, Prog.pure_eq_ret, wp_deviceId, wp_bind]
  iintro ⟨Hx, Ho, Hk⟩
  iapply (x_load m ρ c 1) $$ Hx; iintro Hx
  iapply (o_load c 1 f [pc m ρ c 0]) $$ Ho; iintro Ho
  iapply (o_store m ρ c 1 f [pc m ρ c 0] rfl) $$ Ho; iintro Ho
  iapply (x_load m ρ c 2) $$ Hx; iintro Hx
  iapply (o_load c 2 f [pc m ρ c 1, pc m ρ c 0]) $$ Ho; iintro Ho
  iapply (o_store m ρ c 2 f [pc m ρ c 1, pc m ρ c 0] rfl) $$ Ho; iintro Ho
  iapply (x_load m ρ c 3) $$ Hx; iintro Hx
  iapply (o_load c 3 f [pc m ρ c 2, pc m ρ c 1, pc m ρ c 0]) $$ Ho; iintro Ho
  iapply (o_store m ρ c 3 f [pc m ρ c 2, pc m ρ c 1, pc m ρ c 0] rfl) $$ Ho; iintro Ho
  iapply (x_load m ρ c 4) $$ Hx; iintro Hx
  iapply (o_load c 4 f [pc m ρ c 3, pc m ρ c 2, pc m ρ c 1, pc m ρ c 0]) $$ Ho; iintro Ho
  iapply (o_store m ρ c 4 f [pc m ρ c 3, pc m ρ c 2, pc m ρ c 1, pc m ρ c 0] rfl) $$ Ho; iintro Ho
  iapply (x_load m ρ c 5) $$ Hx; iintro Hx
  rw [wp_ret]; imodintro
  have e15 : k0_pay15 k0_pay3 (carry m ρ c 1) (xblk m ρ c 1) (xblk m ρ c 2) (xblk m ρ c 3) (xblk m ρ c 4) = carry m ρ c 5 := rfl
  rw [e15]
  iapply Hk
  isplitl [Hx]; · iexact Hx
  iexact Ho

end Cert.ScanProof

end
-- ==== Proof.PartSix.lean ====
/-
# `PartSix`: the body's sixth stretch
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The sixth stretch: three blocks, the waits for the copies to have been read -/

set_option maxHeartbeats 1600000 in
/-- The last stretch, run. -/
theorem run_part6 (c : Dev nD) (f : (cc0_stg1_0 : Ref sig .tc).ty.Contents (Elt F)) {Q : PUnit → sProp 𝕄} :
    iprop(records m ρ K ∗ owesE c 0 ∗ xPts m ρ c ∗ oPts c f [pc m ρ c 4, pc m ρ c 3, pc m ρ c 2, pc m ρ c 1, pc m ρ c 0]
        ∗ atPos ER (sendCell c 1) 0 ∅ 0 ∗ sentIf m ρ c 1 ∗ atPos ER (sendCell c 2) 0 ∅ 0 ∗ sentIf m ρ c 2
        ∗ ((owesE c 0 ∗ xPts m ρ c ∗ oPts c f [pc m ρ c 7, pc m ρ c 6, pc m ρ c 5, pc m ρ c 4, pc m ρ c 3, pc m ρ c 2, pc m ρ c 1, pc m ρ c 0]
            ∗ done m ρ (sendCell c 1) ∗ sendPay m ρ c 1 ∗ done m ρ (sendCell c 2) ∗ sendPay m ρ c 2) -∗ Q ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _)
            (Memref.whole cc0_scratch0) (Memref.isWhole_whole _) cc0_scratch1 cc0_scratch2
            (pw c) k0_pay3 (carry m ρ c 5) (k0_pay16 (xblk m ρ c 5)) (constant S256x1024 .f32 0x00000000#32)) Q := by
  rw [k0_part6_eq_skeleton]; unfold k0_part6_skel
  simp only [semSignalWord, semWaitWord, Prog.lift, Prog.bind_op, Prog.bind_ret, Prog.pure_eq_ret, wp_deviceId, wp_bind]
  iintro ⟨#HR, HO, Hx, Ho, Hat1, Hc1, Hat2, Hc2, Hk⟩
  iapply (o_load c 5 f [pc m ρ c 4, pc m ρ c 3, pc m ρ c 2, pc m ρ c 1, pc m ρ c 0]) $$ Ho; iintro Ho
  iapply (o_store m ρ c 5 f [pc m ρ c 4, pc m ρ c 3, pc m ρ c 2, pc m ρ c 1, pc m ρ c 0] rfl) $$ Ho; iintro Ho
  iapply (x_load m ρ c 6) $$ Hx; iintro Hx
  iapply (o_load c 6 f [pc m ρ c 5, pc m ρ c 4, pc m ρ c 3, pc m ρ c 2, pc m ρ c 1, pc m ρ c 0]) $$ Ho; iintro Ho
  iapply (o_store m ρ c 6 f [pc m ρ c 5, pc m ρ c 4, pc m ρ c 3, pc m ρ c 2, pc m ρ c 1, pc m ρ c 0] rfl) $$ Ho; iintro Ho
  iapply (x_load m ρ c 7) $$ Hx; iintro Hx
  iapply (o_load c 7 f [pc m ρ c 6, pc m ρ c 5, pc m ρ c 4, pc m ρ c 3, pc m ρ c 2, pc m ρ c 1, pc m ρ c 0]) $$ Ho; iintro Ho
  iapply (o_store m ρ c 7 f [pc m ρ c 6, pc m ρ c 5, pc m ρ c 4, pc m ρ c 3, pc m ρ c 2, pc m ρ c 1, pc m ρ c 0] rfl) $$ Ho; iintro Ho
  iapply (run_when c)
  iapply (step_wait_send m ρ K c 1 (upBit_iff c 1 (by decide)) (by decide) (by decide))
  isplitr; · iexact HR
  isplitl [HO]; · iexact HO
  isplitl [Hat1]; · iexact Hat1
  isplitl [Hc1]; · iexact Hc1
  iintro ⟨HO, Hd1, Hp1⟩
  iapply (run_when c)
  iapply (step_wait_send m ρ K c 2 (upBit_iff c 2 (by decide)) (by decide) (by decide))
  isplitr; · iexact HR
  isplitl [HO]; · iexact HO
  isplitl [Hat2]; · iexact Hat2
  isplitl [Hc2]; · iexact Hc2
  iintro ⟨HO, Hd2, Hp2⟩
  rw [wp_ret]; imodintro
  iapply Hk
  isplitl [HO]; · iexact HO
  isplitl [Hx]; · iexact Hx
  isplitl [Ho]; · iexact Ho
  isplitl [Hd1]; · iexact Hd1
  isplitl [Hp1]; · iexact Hp1
  isplitl [Hd2]; · iexact Hd2
  iexact Hp2

end Cert.ScanProof

end
-- ==== Proof.Ends.lean ====
/-
# `Ends`: where a device starts and where it ends

The scratch buffer as its four slots and the slots as the buffer; the barrier cell before the first wait; the nine
cells closed after the last round; what a device starts from.
-/
module

public import proofs.«01_k».proof.Proof.Parts

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The scratch buffer and its slots -/

/-- The whole scratch buffer of device `c` at contents `f`. -/
def scrPts (c : Dev nD) (f : (cc0_scratch0 : Ref sig .tc).ty.Contents (Elt F)) : sProp 𝕄 := ((c : Thread nD τ).loc cc0_scratch0) ↦{fullShare} f

/-- The positions of slot `r`. -/
abbrev slotSet (r : Fin 4) : Finset (Shape.Idx (⟨3, ![4, 1, 1024]⟩ : Shape)) := ((rM : Memref sig .tc .vmem S4x1x1024 .f32).access (sR r)).set

omit [FloatOps F] in
/-- An index of the scratch buffer lies in slot `r` when its first coordinate is `r`. -/
theorem mem_slotSet (r : Fin 4) (y : Shape.Idx (⟨3, ![4, 1, 1024]⟩ : Shape)) : y ∈ slotSet r ↔ (y 0).val = r.val := by
  unfold slotSet
  rw [show ((rM : Memref sig .tc .vmem S4x1x1024 .f32).access (sR r)).set = (sR r).set from View.set_slice_whole cc0_scratch0 (sR r)]
  rw [Rect.mem_set_unit]
  constructor
  · intro h
    have h0 := h 0
    have e : (![r.val, 0, 0] : Fin 3 → Nat) 0 = r.val := rfl
    have e' : S1x1x1024.size 0 = 1 := rfl
    rw [e, e'] at h0
    omega
  · intro h a
    match a with
    | 0 => exact ⟨by show r.val ≤ (y 0).val; omega, by show (y 0).val < r.val + 1; omega⟩
    | 1 => exact ⟨Nat.zero_le _, by have := (y 1).isLt; show (y 1).val < 0 + 1; exact (Nat.zero_add 1).symm ▸ this⟩
    | 2 => exact ⟨Nat.zero_le _, by have := (y 2).isLt; show (y 2).val < 0 + 1024; exact (Nat.zero_add 1024).symm ▸ this⟩

omit [FloatOps F] in
/-- Two slots have no index in common. -/
theorem slotSet_disjoint : ∀ r ∈ (Finset.univ : Finset (Fin 4)), ∀ r' ∈ (Finset.univ : Finset (Fin 4)), r ≠ r' → Disjoint (slotSet r) (slotSet r') :=
  fun r _ r' _ hne => Finset.disjoint_left.mpr fun y hy hy' =>
    hne (Fin.ext (((mem_slotSet r y).mp hy).symm.trans ((mem_slotSet r' y).mp hy')))

omit [FloatOps F] in
/-- The four slots make up the scratch buffer. -/
theorem slotSet_cover : (Finset.univ : Finset (Fin 4)).biUnion slotSet = Finset.univ :=
  Finset.eq_univ_iff_forall.mpr fun y => Finset.mem_biUnion.mpr ⟨y 0, Finset.mem_univ _, (mem_slotSet (y 0) y).mpr rfl⟩

omit [FloatOps F] in
/-- Owning the scratch buffer is owning its four slots. -/
theorem scr_slots (c : Dev nD) (f : (cc0_scratch0 : Ref sig .tc).ty.Contents (Elt F)) :
    (scrPts c f : sProp 𝕄) = bigSep Finset.univ fun r : Fin 4 => slotPts c r fullShare f := by
  unfold scrPts slotPts
  rw [← slotSet_cover]
  exact pointsTo_biUnion (ℓ := (c : Thread nD τ).loc cc0_scratch0) Finset.univ slotSet slotSet_disjoint

omit [FloatOps F] in
/-- The buffer as its four slots; -/
theorem scr_split (c : Dev nD) (f : (cc0_scratch0 : Ref sig .tc).ty.Contents (Elt F)) :
    (scrPts c f : sProp 𝕄) ⊢ iprop(slotAny c 0 ∗ slotAny c 1 ∗ slotAny c 2 ∗ slotAny c 3) := by
  rw [scr_slots, bigSep_four]
  unfold slotAny
  iintro ⟨H0, H1, H2, H3⟩
  isplitl [H0]; · iexists f; iexact H0
  isplitl [H1]; · iexists f; iexact H1
  isplitl [H2]; · iexists f; iexact H2
  iexists f; iexact H3

omit [FloatOps F] in
/-- the slots as the buffer. -/
theorem scr_join (c : Dev nD) :
    iprop(slotAny c 0 ∗ slotAny c 1 ∗ slotAny c 2 ∗ slotAny c 3) ⊢ (iprop(∃ f, scrPts c f) : sProp 𝕄) := by
  unfold slotAny
  iintro ⟨⟨%f0, H0⟩, ⟨%f1, H1⟩, ⟨%f2, H2⟩, ⟨%f3, H3⟩⟩
  have h : bigSep Finset.univ (fun r : Fin 4 => (slotPts c r fullShare (![f0, f1, f2, f3] r) : sProp 𝕄)) ⊢ iprop(∃ f, scrPts c f) := by
    unfold slotPts scrPts
    iintro H
    ihave H' := (pointsTo_biUnion_join (ℓ := (c : Thread nD τ).loc cc0_scratch0) Finset.univ slotSet (fun r => ![f0, f1, f2, f3] r) f0 slotSet_disjoint) $$ H
    rw [slotSet_cover]
    icases H' with ⟨%g, -, Hg⟩
    iexists g
    iexact Hg
  rw [bigSep_four] at h
  iapply h
  isplitl [H0]; · iexact H0
  isplitl [H1]; · iexact H1
  isplitl [H2]; · iexact H2
  iexact H3

/-! ## The cells before the first wait and after the last -/

/-- The barrier cell as a device finds it. -/
theorem barSt_start (c : Dev nD) :
    iprop(atPos ER (barCell c) 0 ∅ 0 ∗ cred (tallyAt (barCell c) () (behind c))) ⊢ barSt m ρ c 0 := by
  by_cases h : 0 < behind c
  · rw [barSt_of_lt m ρ h]
    iintro ⟨Hat, Hc⟩
    iexists ∅
    isplitr; · ipureintro; exact Finset.empty_subset _
    isplitl [Hat]; · iexact Hat
    isplitl [Hc]; · iexact Hc
    rw [bigSep_empty]; iempintro
  · rw [barSt_of_le m ρ (Nat.not_lt.mp h)]
    have hd : (sched (F := F) m ρ).duties (barCell c) 0 = ∅ := by
      rw [duties_bar]
      exact Finset.card_eq_zero.mp (by rw [card_hasUp]; omega)
    iintro ⟨Hat, -⟩
    rw [hd, bigSep_empty]
    isplitl; swap; · iempintro
    unfold done
    iexists 0
    isplitr
    · ipureintro
      intro n _
      rcases Nat.eq_zero_or_pos n with rfl | hn
      · exact hd
      · exact duties_later m ρ _ n hn
    iexact Hat

/-- A cell that no device ever pays is over from the start. -/
theorem done_idle (g : GSem nD τ sig) (h : (sched (F := F) m ρ).duties g 0 = ∅) : (atPos ER g 0 ∅ 0 : sProp 𝕄) ⊢ done m ρ g := by
  unfold done
  iintro Hat
  iexists 0
  isplitr
  · ipureintro
    intro n _
    rcases Nat.eq_zero_or_pos n with rfl | hn
    · exact h
    · exact duties_later m ρ _ n hn
  iexact Hat

/-- Nothing is sent at distance 0: that send cell is over from the start. -/
theorem done_send_zero (c : Dev nD) : (atPos ER (sendCell c 0) 0 ∅ 0 : sProp 𝕄) ⊢ done m ρ (sendCell c 0) :=
  done_idle m ρ _ (by rw [duties_send, if_neg]; exact fun h => absurd h.1 (by decide))
/-- Nothing is received at distance 0: that receive cell is over from the start. -/
theorem done_recv_zero (c : Dev nD) : (atPos ER (recvCell c 0) 0 ∅ 0 : sProp 𝕄) ⊢ done m ρ (recvCell c 0) :=
  done_idle m ρ _ (by rw [duties_recv, if_neg]; exact fun h => absurd h.1 (by decide))

/-- A cell that is over closes: its counter is at zero and the device's again. -/
theorem close_cell (ck : Dev nD × Fin 9) :
    iprop(records m ρ K ∗ done m ρ (kcell ck)) ⊢ iprop(|={Set.univ}=> semVal (kcell ck) 0) := by
  unfold done
  iintro ⟨#HR, ⟨%R, %hR, Hat⟩⟩
  iapply (Rounds.cell_close ER (sched m ρ) (Set.mem_univ (K ck)) (fun h => h) (R := R) hR)
  isplitr; · iapply (records_inv m ρ K ck); iexact HR
  iexact Hat

omit [FloatOps F] in
/-- A product over nine, written out. -/
theorem bigSep_nine (Φ : Fin 9 → sProp 𝕄) : bigSep Finset.univ Φ = iprop(Φ barIx ∗ Φ (sendIx 0) ∗ Φ (sendIx 1) ∗ Φ (sendIx 2) ∗ Φ (sendIx 3)
    ∗ Φ (recvIx 0) ∗ Φ (recvIx 1) ∗ Φ (recvIx 2) ∗ Φ (recvIx 3)) :=
  bigSep_univ_eq_bigSepL (I := Fin 9) [barIx, sendIx 0, sendIx 1, sendIx 2, sendIx 3, recvIx 0, recvIx 1, recvIx 2, recvIx 3] (by decide) (by decide) Φ

/-- The cell of the barrier's index is the barrier cell. -/
theorem kcell_bar (c : Dev nD) : kcell (c, barIx) = barCell c := rfl
/-- The cell of a send index is that send cell. -/
theorem kcell_send (c : Dev nD) (r : Fin 4) : kcell (c, sendIx r) = sendCell c r := Prod.ext rfl (csem_send r)
/-- The cell of a receive index is that receive cell. -/
theorem kcell_recv (c : Dev nD) (r : Fin 4) : kcell (c, recvIx r) = recvCell c r := Prod.ext rfl (csem_recv r)

/-- All nine cells of a device, closed. -/
def closed (c : Dev nD) : sProp 𝕄 := bigSep Finset.univ fun k : Fin 9 => semVal (kcell (c, k)) 0

/-- Closing the nine cells of a device. -/
theorem close_all (c : Dev nD) :
    iprop(records m ρ K ∗ done m ρ (barCell c) ∗ done m ρ (sendCell c 0) ∗ done m ρ (sendCell c 1) ∗ done m ρ (sendCell c 2) ∗ done m ρ (sendCell c 3)
        ∗ done m ρ (recvCell c 0) ∗ done m ρ (recvCell c 1) ∗ done m ρ (recvCell c 2) ∗ done m ρ (recvCell c 3))
      ⊢ iprop(|={Set.univ}=> closed c) := by
  have h : iprop(records m ρ K ∗ bigSep Finset.univ fun k : Fin 9 => done m ρ (kcell (c, k))) ⊢ iprop(|={Set.univ}=> closed c) :=
    (((sep_mono_left (BI.bigSep_of_persistent Finset.univ (records m ρ K))).trans (by rw [← bigSep_sep'])).trans
      (bigSep_mono fun k _ => close_cell m ρ K (c, k))).trans (bigSep_fupd _ _)
  rw [bigSep_nine] at h
  simp only [kcell_bar, kcell_send, kcell_recv] at h
  exact h

/-! ## What a device starts from -/

/-- Its positions, all at round 0 of its nine cells; -/
def posns (c : Dev nD) : sProp 𝕄 := bigSep Finset.univ fun k : Fin 9 => atPos ER (kcell (c, k)) 0 ∅ 0

/-- A device's nine starting positions, written out. -/
theorem posns_eq (c : Dev nD) : (posns c : sProp 𝕄) = iprop(atPos ER (barCell c) 0 ∅ 0 ∗ atPos ER (sendCell c 0) 0 ∅ 0 ∗ atPos ER (sendCell c 1) 0 ∅ 0
    ∗ atPos ER (sendCell c 2) 0 ∅ 0 ∗ atPos ER (sendCell c 3) 0 ∅ 0 ∗ atPos ER (recvCell c 0) 0 ∅ 0 ∗ atPos ER (recvCell c 1) 0 ∅ 0
    ∗ atPos ER (recvCell c 2) 0 ∅ 0 ∗ atPos ER (recvCell c 3) 0 ∅ 0) := by
  unfold posns
  rw [bigSep_nine]
  simp only [kcell_bar, kcell_send, kcell_recv]

/-- the tokens of the payments it may make: signals in front, its copies' read ends, its copies' landings behind. -/
def payToks (c : Dev nD) : sProp 𝕄 :=
  iprop((bigSep Finset.univ fun r : Fin 4 => dutyTok ER (barCell (dn c r)) 0 r)
    ∗ (bigSep Finset.univ fun r : Fin 4 => dutyTok ER (sendCell c r) 0 r)
    ∗ (bigSep Finset.univ fun r : Fin 4 => dutyTok ER (recvCell (up c r) r) 0 r))

/-- The ghost state of device `c`. -/
def ghost (c : Dev nD) : sProp 𝕄 := iprop(records m ρ K ∗ posns c ∗ payToks c)

/-- Its credits: the barrier's units, the landings. -/
def credsOf (c : Dev nD) : sProp 𝕄 :=
  iprop(cred (tallyAt (barCell c) () (behind c)) ∗ recvCred c 1 ∗ recvCred c 2 ∗ recvCred c 3)

end Cert.ScanProof

end
-- ==== Proof.Body.lean ====
/-
# `Body`: the whole body on one device

The six stretches in a row, from what a device starts from to its nine cells closed and its result stored.
-/
module

public import proofs.«01_k».proof.Proof.PartOne
public import proofs.«01_k».proof.Proof.PartTwo
public import proofs.«01_k».proof.Proof.PartThree
public import proofs.«01_k».proof.Proof.PartFour
public import proofs.«01_k».proof.Proof.PartFive
public import proofs.«01_k».proof.Proof.PartSix
public import proofs.«01_k».proof.Proof.Ends
@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-! ## The result buffer after the eight stores -/

/-- Row `i` of the result is row `i % 256` of block `i / 256`. -/
def blkIx (y : S2048x1024.Idx) : Fin 8 := ⟨(y 0).val / 256, by have h : (y 0).val < 2048 := (y 0).isLt; omega⟩
def inBlk (y : S2048x1024.Idx) : S256x1024.Idx :=
  fun a => match a with
    | 0 => (⟨(y 0).val % 256, Nat.mod_lt _ (by decide)⟩ : Fin 256)
    | 1 => (⟨(y 1).val, (y 1).isLt⟩ : Fin 1024)

/-- What device `c` stores. -/
def outAt (c : Dev nD) : (cc0_stg1_0 : Ref sig .tc).ty.Contents (Elt F) := fun y => outB m ρ c (blkIx y) (inBlk y)

/-- A row lies in the rectangle of its block. -/
theorem xR_mem (b : Fin 8) (y : S2048x1024.Idx) (h : blkIx y = b) : y ∈ (xR b).set := by
  subst h
  rw [Rect.mem_set_unit]
  intro a
  match a with
  | 0 => exact ⟨by show 256 * ((y 0).val / 256) ≤ (y 0).val; omega, by show (y 0).val < 256 * ((y 0).val / 256) + 256; omega⟩
  | 1 => exact ⟨Nat.zero_le _, by have := (y 1).isLt; show (y 1).val < 0 + 1024; exact (Nat.zero_add 1024).symm ▸ this⟩

/-- Entry `x` of block `b`'s rectangle is in block `b`, at `x`. -/
theorem xR_at (b : Fin 8) (x : S256x1024.Idx) : blkIx ((xR b).emb x) = b ∧ inBlk ((xR b).emb x) = x := by
  have h0 : (((xR b).emb x) 0).val = 256 * b.val + (x 0).val := by
    rw [Rect.emb_apply]; show 256 * b.val + 1 * (x 0).val = _; omega
  have h1 : (((xR b).emb x) 1).val = (x 1).val := by
    rw [Rect.emb_apply]; show 0 + 1 * (x 1).val = _; omega
  have hx : (x 0).val < 256 := (x 0).isLt
  constructor
  · apply Fin.ext; show (((xR b).emb x) 0).val / 256 = b.val; rw [h0]; omega
  · funext a
    match a with
    | 0 => exact Fin.ext (by show (((xR b).emb x) 0).val % 256 = (x 0).val; rw [h0]; omega)
    | 1 => exact Fin.ext (by show (((xR b).emb x) 1).val = (x 1).val; exact h1)

/-- What is stored in block `b` is the result's part there. -/
theorem outB_outAt (c : Dev nD) (b : Fin 8) (x : S256x1024.Idx) : outB m ρ c b x = outAt m ρ c ((xR b).emb x) := by
  unfold outAt; rw [(xR_at b x).1, (xR_at b x).2]

/-- After writes of blocks that cover the rows, every entry of the buffer is the result's. -/
theorem out_read (c : Dev nD) (f : (cc0_stg1_0 : Ref sig .tc).ty.Contents (Elt F)) (bs : List (Fin 8)) (hbs : ∀ b, b ∈ bs) (y : S2048x1024.Idx) :
    (oM : Memref sig .tc .vmem S2048x1024 .bf16).view.read (Elt F)
      ((oM : Memref sig .tc .vmem S2048x1024 .bf16).view.writes (Elt F) f (bs.map (pc m ρ c))) y = outAt m ρ c y :=
  View.read_writes_apply_of_pieces (oM : Memref sig .tc .vmem S2048x1024 .bf16).view f (outAt m ρ c) (bs.map (pc m ρ c))
    (fun p hp => by
      obtain ⟨b, -, rfl⟩ := List.mem_map.mp hp
      exact outB_outAt m ρ c b)
    y ⟨pc m ρ c (blkIx y), List.mem_map.mpr ⟨_, hbs _, rfl⟩, xR_mem _ y rfl⟩

omit [FloatOps F] in
/-- The result buffer's view is the whole buffer. -/
theorem read_out (g : (cc0_stg1_0 : Ref sig .tc).ty.Contents (Elt F)) : (oM : Memref sig .tc .vmem S2048x1024 .bf16).view.read (Elt F) g = g := rfl

/-- The eight writes, last first, leave the result in the buffer, whatever it held. -/
theorem out_eq (c : Dev nD) (f : (cc0_stg1_0 : Ref sig .tc).ty.Contents (Elt F)) :
    (oM : Memref sig .tc .vmem S2048x1024 .bf16).view.writes (Elt F) f
      [pc m ρ c 7, pc m ρ c 6, pc m ρ c 5, pc m ρ c 4, pc m ρ c 3, pc m ρ c 2, pc m ρ c 1, pc m ρ c 0] = outAt m ρ c := by
  have h : (oM : Memref sig .tc .vmem S2048x1024 .bf16).view.writes (Elt F) f (([7, 6, 5, 4, 3, 2, 1, 0] : List (Fin 8)).map (pc m ρ c)) = outAt m ρ c :=
    (read_out _).symm.trans (funext (out_read m ρ c f [7, 6, 5, 4, 3, 2, 1, 0] (by decide)))
  exact h

/-! ## The pipeline's data -/

/-- The grid has one point. -/
theorem cfg0_N : cfg0.N = 1 := by decide
def t₀ : Fin cfg0.N := ⟨0, by rw [cfg0_N]; decide⟩
/-- So every point of it is that one. -/
theorem fin_N (t : Fin cfg0.N) : t = t₀ := by
  obtain ⟨t, ht⟩ := t; have := cfg0_N; exact Fin.ext (by simp only [t₀]; omega)

/-- What device `c`'s body starts from, besides the scratch buffer. -/
def start (c : Dev nD) : sProp 𝕄 := iprop((∃ K, ghost m ρ K c) ∗ credsOf c ∗ levAts L lv)

def Φ₀ (c : Dev nD) : sProp 𝕄 := iprop(start m ρ c ∗ ∃ f, scrPts c f)
/-- What it ends with: the scratch buffer at whatever it holds, all cells closed. -/
def Φ₁ (c : Dev nD) : sProp 𝕄 := iprop((∃ f, scrPts (F := F) c f) ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The block of `x` is fetched at that point. -/
theorem fetch_0 (t : Fin cfg0.N) : (cfg0.win (0 : Fin 2)).fetch t = true := by rw [fin_N t]; rfl

omit [FloatOps F] in
/-- Owning a whole buffer through its memref is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

set_option maxHeartbeats 1600000 in
/-- The body run through: from the ghost state, the credits, the four slots, `x` and the result buffer to the result
    stored, the slots back and every cell over. -/
theorem run_body (c : Dev nD) (f : (cc0_stg1_0 : Ref sig .tc).ty.Contents (Elt F)) {Q : PUnit → sProp 𝕄} :
    iprop(records m ρ K ∗ posns c ∗ payToks c ∗ credsOf c ∗ levAts L lv ∗ owesE c (O₀ c)
        ∗ (slotAny c 0 ∗ slotAny c 1 ∗ slotAny c 2 ∗ slotAny c 3) ∗ xPts m ρ c ∗ oPts c f []
        ∗ ((owesE c 0 ∗ xPts m ρ c ∗ oPts c f [pc m ρ c 7, pc m ρ c 6, pc m ρ c 5, pc m ρ c 4, pc m ρ c 3, pc m ρ c 2, pc m ρ c 1, pc m ρ c 0]
            ∗ (slotAny c 0 ∗ slotAny c 1 ∗ slotAny c 2 ∗ slotAny c 3) ∗ closed c) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Q := by
  rw [cc0_body_eq_skeleton]; unfold cc0_body_skel
  simp only [Prog.lift, Prog.bind_op, Prog.bind_ret, Prog.pure_eq_ret, wp_bind]
  rw [posns_eq]
  unfold payToks credsOf
  rw [bigSep_four, bigSep_four, bigSep_four]
  iintro ⟨#HR, ⟨HaB, HaS0, HaS1, HaS2, HaS3, HaV0, HaV1, HaV2, HaV3⟩, ⟨⟨-, HtB1, HtB2, HtB3⟩, ⟨-, HtS1, HtS2, HtS3⟩, ⟨-, HtV1, HtV2, HtV3⟩⟩,
    ⟨HcB, HcV1, HcV2, HcV3⟩, #Hlev, HO, ⟨Hs0, Hs1, Hs2, Hs3⟩, Hx, Ho, Hk⟩
  ihave HB := (barSt_start m ρ c) $$ [HaB HcB]
  · isplitl [HaB] <;> iassumption
  iapply (run_part1 m ρ K c)
  isplitr; · iexact HR
  isplitr; · iexact Hlev
  isplitl [HO]; · iexact HO
  isplitl [HtB1]; · iexact HtB1
  isplitl [HtB2]; · iexact HtB2
  isplitl [HtB3]; · iexact HtB3
  isplitl [Hs0]; · iexact Hs0
  isplitl [Hs1]; · iexact Hs1
  isplitl [Hs2]; · iexact Hs2
  isplitl [Hs3]; · iexact Hs3
  isplitl [Hx]; · iexact Hx
  isplitl [HB]; · iexact HB
  iintro ⟨HO, Hs1, Hs2, Hs3, Hs0, Hx, HB⟩
  iapply (run_part2 m ρ K c)
  isplitr; · iexact HR
  isplitr; · iexact Hlev
  isplitl [HO]; · iexact HO
  isplitl [HB]; · iexact HB
  isplitl [Hs0]; · iexact Hs0
  isplitl [HtS1]; · iexact HtS1
  isplitl [HtV1]; · iexact HtV1
  iintro %a2 %b2 ⟨HO, HdB, Hav2, Hav3, Hp0, Hp2, Hp3, Hse1⟩
  iapply (run_part3 m ρ K c a2 b2)
  isplitr; · iexact HR
  isplitl [HO]; · iexact HO
  isplitl [Hav2]; · iexact Hav2
  isplitl [Hav3]; · iexact Hav3
  isplitl [Hp2]; · iexact Hp2
  isplitl [Hp3]; · iexact Hp3
  isplitl [HtS2]; · iexact HtS2
  isplitl [HtV2]; · iexact HtV2
  isplitl [HtS3]; · iexact HtS3
  isplitl [HtV3]; · iexact HtV3
  isplitl [HaV1]; · iexact HaV1
  isplitl [HcV1]; · iexact HcV1
  isplitl [Hs1]; · iexact Hs1
  iintro %a3 ⟨HO, Hse2, Hse3, HdV1, Hs1⟩
  iapply (run_part4 m ρ K c _ _ f)
  isplitr; · iexact HR
  isplitl [HO]; · iexact HO
  isplitl [HaV2]; · iexact HaV2
  isplitl [HcV2]; · iexact HcV2
  isplitl [Hs2]; · iexact Hs2
  isplitl [HaV3]; · iexact HaV3
  isplitl [HcV3]; · iexact HcV3
  isplitl [Hs3]; · iexact Hs3
  isplitl [Hx]; · iexact Hx
  isplitl [Ho]; · iexact Ho
  iintro ⟨HO, HdV2, Hs2, HdV3, Hs3, Hx, Ho⟩
  iapply (run_part5 m ρ c f)
  isplitl [Hx]; · iexact Hx
  isplitl [Ho]; · iexact Ho
  iintro ⟨Hx, Ho⟩
  iapply (run_part6 m ρ K c f)
  isplitr; · iexact HR
  isplitl [HO]; · iexact HO
  isplitl [Hx]; · iexact Hx
  isplitl [Ho]; · iexact Ho
  isplitl [HaS1]; · iexact HaS1
  isplitl [Hse1]; · iexact Hse1
  isplitl [HaS2]; · iexact HaS2
  isplitl [Hse2]; · iexact Hse2
  iintro ⟨HO, Hx, Ho, HdS1, Hp1, HdS2, Hp2⟩
  iapply (run_when c)
  iapply (step_wait_send m ρ K c 3 (upBit_iff c 3 (by decide)) (by decide) (by decide))
  isplitr; · iexact HR
  isplitl [HO]; · iexact HO
  isplitl [HaS3]; · iexact HaS3
  isplitl [Hse3]; · iexact Hse3
  iintro ⟨HO, HdS3, Hp3⟩
  ihave HdS0 := (done_send_zero m ρ c) $$ HaS0
  ihave HdV0 := (done_recv_zero m ρ c) $$ HaV0
  imod (close_all m ρ K c) $$ [HdB HdS0 HdS1 HdS2 HdS3 HdV0 HdV1 HdV2 HdV3] with Hcl
  · isplitr; · iexact HR
    isplitl [HdB]; · iexact HdB
    isplitl [HdS0]; · iexact HdS0
    isplitl [HdS1]; · iexact HdS1
    isplitl [HdS2]; · iexact HdS2
    isplitl [HdS3]; · iexact HdS3
    isplitl [HdV0]; · iexact HdV0
    isplitl [HdV1]; · iexact HdV1
    isplitl [HdV2]; · iexact HdV2
    iexact HdV3
  ihave Hs := (Entails.of_eq (slot0_shares m ρ c).symm) $$ [Hp0 Hp1 Hp2 Hp3]
  · isplitl [Hp0]; · iexact Hp0
    isplitl [Hp1]; · iexact Hp1
    isplitl [Hp2]; · iexact Hp2
    iexact Hp3
  ihave Hs0 := (slotV_any c 0 (tot m ρ c)) $$ Hs
  rw [wp_ret]; imodintro
  iapply Hk
  isplitl [HO]; · iexact HO
  isplitl [Hx]; · iexact Hx
  isplitl [Ho]; · iexact Ho
  isplitl [Hs0 Hs1 Hs2 Hs3]
  · isplitl [Hs0]; · iexact Hs0
    isplitl [Hs1]; · iexact Hs1
    isplitl [Hs2]; · iexact Hs2
    iexact Hs3
  iexact Hcl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxRecDepth 4000 in
set_option maxHeartbeats 800000 in
/-- The body's contract on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre Φ₀ start ghost Dat.owesAt Pipeline.owesWithin
  iintro ⟨⟨⟨⟨%K, #HR, Hpos, Htok⟩, Hcr, #Hlev⟩, ⟨%f0, Hscr⟩⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  rw [show (dats m ρ 0 c).owed t₀.castSucc = O₀ c from rfl]
  ihave Hs := (scr_split c f0) $$ Hscr
  iapply (run_body m ρ K c g1)
  isplitr; · iexact HR
  isplitl [Hpos]; · iexact Hpos
  isplitl [Htok]; · iexact Htok
  isplitl [Hcr]; · iexact Hcr
  isplitr; · iexact Hlev
  isplitl [HO]; · unfold owesE; iexists W; iexact HO
  isplitl [Hs]; · iexact Hs
  isplitl [Hx]; · unfold xPts; iexact Hx
  isplitl [Hout]; · unfold oPts; rw [View.writes_nil]; iexact Hout
  iintro ⟨HO, Hx, Ho, Hs, Hcl⟩
  unfold owesE
  icases HO with ⟨%W', HO⟩
  unfold bodyPost Φ₁ Dat.owesAt Pipeline.owesWithin
  rw [show (dats m ρ 0 c).owed t₀.succ = 0 from rfl]
  isplitl [Hs Hcl]
  · isplitl [Hs]; · iapply (scr_join c); iexact Hs
    iexact Hcl
  isplitl [HO]
  · iexists W'
    isplitr; · ipureintro; exact fun _ _ => Or.inl trivial
    iexact HO
  isplitl [Hx]
  · iexists (xstg m ρ c); isplitr; · (ipureintro; rfl)
    unfold xPts; iexact Hx
  iexists (outAt m ρ c); isplitr; · (ipureintro; rfl)
  unfold oPts
  rw [out_eq m ρ c g1]
  iexact Ho

end Cert.ScanProof

end
-- ==== Proof.RunMain.lean ====
/-
# `RunMain`: the launch, and the program's run on the four devices

What the launch gives each device: its nine cells under one map of names, the tokens of the payments it makes, the
credits of what the others owe it. Then the run of `@main`.
-/
module

public import proofs.«01_k».proof.Proof.Body
public import Idealize.ShloMosaic.Lib.Pipeline.CollectiveSegs
@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The body's own semaphores are scoped, and are none of the staging semaphores. -/
theorem ownSemFacts : Pipeline.OwnSemFacts cfg0.spec osem := by decide

/-- Each window's buffer is owned whole. -/
theorem share_eq (c : Dev nD) (w : Fin cfg0.W) : (dats m ρ 0 c).share w = fullShare := by unfold Dat.share; split <;> rfl

/-- Different indices have different semaphores, -/
theorem csem_injective : Function.Injective csem := by decide

/-- and different pairs of device and index have different cells. -/
theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The payments into a device's own cells: which cell (barrier, send, receive) and at which distance. -/
def kindIx (j : Fin 3) (r : Fin 4) : Fin 9 := match j with | 0 => barIx | 1 => sendIx r | 2 => recvIx r
abbrev tokOf (x : Dev nD × Fin 3 × Fin 4) : GSem nD τ sig × ℕ × Fin 4 := (kcell (x.1, kindIx x.2.1 x.2.2), 0, x.2.2)

/-- A cell is of one kind only. -/
theorem kind_injective : ∀ (j j' : Fin 3) (r : Fin 4), kindIx j r = kindIx j' r → j = j' := by decide

/-- Different duties have different tokens. -/
theorem tokOf_injective : Function.Injective tokOf := by
  rintro ⟨c, j, r⟩ ⟨c', j', r'⟩ h
  have h2 : r = r' := congrArg (fun x : GSem nD τ sig × ℕ × Fin 4 => x.2.2) h
  subst h2
  have h1 := kcell_injective (congrArg (fun x : GSem nD τ sig × ℕ × Fin 4 => x.1) h)
  have hc : c = c' := congrArg Prod.fst h1
  have hj : j = j' := kind_injective j j' r (congrArg Prod.snd h1)
  rw [hc, hj]

def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The tokens of the payments into device `c`'s cells. -/
def toks (c : Dev nD) : sProp 𝕄 :=
  iprop((bigSep Finset.univ fun r : Fin 4 => dutyTok ER (barCell c) 0 r)
    ∗ (bigSep Finset.univ fun r : Fin 4 => dutyTok ER (sendCell c r) 0 r)
    ∗ (bigSep Finset.univ fun r : Fin 4 => dutyTok ER (recvCell c r) 0 r))

/-- What the launch's element gives device `c`. -/
def G (c : Dev nD) : sProp 𝕄 :=
  iprop((bigSep Finset.univ fun k : Fin 9 => roundState ER (sched m ρ) (kcell (c, k)) 0)
    ∗ (bigSep Finset.univ fun k : Fin 9 => iprop(atPos ER (kcell (c, k)) 0 ∅ 0 ∗ reached ER (kcell (c, k)) 0)) ∗ toks c)

/-- What the step over all devices makes of it. -/
def G' (c : Dev nD) : sProp 𝕄 := iprop(∃ K, ghost m ρ K c)

/-- A product over the three kinds of cell, written out. -/
theorem bigSep_three (Φ : Fin 3 → sProp 𝕄) : bigSep Finset.univ Φ = iprop(Φ 0 ∗ Φ 1 ∗ Φ 2) :=
  bigSep_univ_eq_bigSepL (I := Fin 3) [0, 1, 2] (by decide) (by decide) Φ

/-- All duty tokens, device by device. -/
theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_prod, bigSep_three]
  unfold toks
  have hs : (bigSep Finset.univ fun r : Fin 4 => (dutyTok ER (kcell (c, sendIx r)) 0 r : sProp 𝕄)) = bigSep Finset.univ fun r : Fin 4 => dutyTok ER (sendCell c r) 0 r :=
    bigSep_congr fun r _ => by rw [kcell_send]
  have hv : (bigSep Finset.univ fun r : Fin 4 => (dutyTok ER (kcell (c, recvIx r)) 0 r : sProp 𝕄)) = bigSep Finset.univ fun r : Fin 4 => dutyTok ER (recvCell c r) 0 r :=
    bigSep_congr fun r _ => by rw [kcell_recv]
  rw [← hs, ← hv]
  rfl

/-- All cells, device by device. -/
theorem cells_eq (Φ : GSem nD τ sig → sProp 𝕄) :
    bigSep allCells Φ = bigSep Finset.univ fun c : Dev nD => bigSep Finset.univ fun k : Fin 9 => Φ (kcell (c, k)) := by
  unfold allCells; rw [bigSep_map, bigSep_univ_prod]; rfl

/-- The protocol's element of the launch gives every device its part. -/
theorem fund_all : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst' := (Entails.of_eq (cells_eq fun g => roundState ER (sched m ρ) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## The semaphores -/

/-- The body's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl

/-- The barrier is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All cells of a device closed is all its semaphores at zero. -/
theorem closed_eq (c : Dev nD) : (closed c : sProp 𝕄)
    = iprop(semVal (barCell c) 0 ∗ Pipeline.ownSems0 (Ix := Unit) (Name := ℕ) (U := UU) (Lvl := ℕ) (Val := Elt F) (τ := τ) osem c) := by
  rw [ownSems0_eq]
  unfold closed
  rw [bigSep_nine]
  simp only [kcell_bar, kcell_send, kcell_recv]

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have hal : iprop(closed c ∗ bigSep Finset.univ fun k : Fin 9 => roundState ER (sched m ρ) (kcell (c, k)) 0)
      ⊢ (|={Set.univ}=> bigSep Finset.univ fun k => iprop(∃ κ : ℕ, cellInv ER (sched m ρ) κ (kcell (c, k))) : sProp 𝕄) := by
    unfold closed
    rw [← bigSep_sep']
    exact (bigSep_mono fun k _ => (Rounds.body_intro ER (sched m ρ) (kcell (c, k))).trans inv_alloc).trans (bigSep_fupd _ _)
  rw [closed_eq] at hal
  rw [unscopedSems0_eq]
  unfold G
  iintro ⟨Hos, Hus, Hst, Hat, Htok⟩
  imod hal $$ [Hos Hus Hst] with Hinv
  · isplitr [Hst]
    · isplitl [Hus] <;> iassumption
    · iexact Hst
  imodintro
  isplitl [Hinv]; · iexact Hinv
  isplitl [Hat]; · iexact Hat
  iexact Htok

/-! ## The step over all devices -/

/-- Device and distance, shifted along the row. -/
def shiftDn : Dev nD × Fin 4 ≃ Dev nD × Fin 4 :=
  ⟨fun x => (dn x.1 x.2, x.2), fun x => (up x.1 x.2, x.2), fun x => Prod.ext (up_dn x.1 x.2) rfl, fun x => Prod.ext (dn_up x.1 x.2) rfl⟩

/-- Every token handed to the device that pays with it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun x : Dev nD × Fin 4 => (dutyTok ER (barCell x.1) 0 x.2 : sProp 𝕄)),
    ← bigSep_univ_prod (fun x : Dev nD × Fin 4 => (dutyTok ER (recvCell x.1 x.2) 0 x.2 : sProp 𝕄)),
    ← bigSep_univ_prod (fun x : Dev nD × Fin 4 => (dutyTok ER (barCell (dn x.1 x.2)) 0 x.2 : sProp 𝕄)),
    ← bigSep_univ_prod (fun x : Dev nD × Fin 4 => (dutyTok ER (recvCell (up x.1 x.2) x.2) 0 x.2 : sProp 𝕄)),
    bigSep_univ_equiv shiftDn (fun x : Dev nD × Fin 4 => (dutyTok ER (barCell x.1) 0 x.2 : sProp 𝕄)),
    bigSep_univ_equiv shiftDn.symm (fun x : Dev nD × Fin 4 => (dutyTok ER (recvCell x.1 x.2) 0 x.2 : sProp 𝕄))]
  exact Entails.of_eq rfl

/-- A device's part of the ghost state, at whatever names the invariants have. -/
theorem own_ghost (K : Dev nD × Fin 9 → ℕ) (c : Dev nD) : iprop(records m ρ K ∗ posns c ∗ payToks c) ⊢ G' m ρ c := by
  unfold G' ghost
  iintro H
  iexists K
  iexact H

/-- The records are shared by every device. -/
theorem with_records (K : Dev nD × Fin 9 → ℕ) : iprop(records m ρ K ∗ bigSep Finset.univ fun c : Dev nD => iprop(posns c ∗ payToks c)) ⊢ bigSep Finset.univ (G' m ρ) :=
  (sep_mono_left (BI.bigSep_of_persistent Finset.univ (records m ρ K))).trans (by
    rw [← bigSep_sep']
    exact bigSep_mono fun c _ => own_ghost m ρ K c)

/-- The tokens, handed out by cell, regrouped by the device that pays. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (sched m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m ρ) κ (kcell ck) : sProp 𝕄))) $$ HI
  icases HK with ⟨%K, #HI⟩
  ihave Htk := (toks_around (F := F)) $$ Htok
  iapply (with_records m ρ K)
  isplitr
  · unfold records; isplitl; · iexact HI
    iexact HR
  · rw [bigSep_sep']
    unfold posns
    isplitl [Hat]; · iexact Hat
    iexact Htk

/-- All devices' cells at once, own and runtime's. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- Different devices have different barrier cells. -/
theorem barCell_inj {a b : Dev nD} (h : barCell a = barCell b) : a = b := congrArg (fun g : GSem nD τ sig => g.1.1) h
/-- Different devices and distances have different receive cells. -/
theorem recvCell_inj {a b : Dev nD} {r r' : Fin 4} (h : recvCell a r = recvCell b r') : a = b ∧ r = r' :=
  ⟨congrArg (fun g : GSem nD τ sig => g.1.1) h, recvSem_inj (dma_inj (congrArg Prod.snd h))⟩

/-- What the signal of `d` at distance `r` owes a barrier cell. -/
theorem sigO_bar (d c : Dev nD) (r : Fin 4) : sigO d r (barCell c) () = if hasDn d r ∧ dn d r = c then 1 else 0 := by
  unfold sigO
  by_cases h : hasDn d r
  · rw [if_pos h, tallyAt_apply]
    by_cases hc : dn d r = c
    · rw [if_pos ⟨by rw [hc], rfl⟩, if_pos ⟨h, hc⟩]
    · rw [if_neg fun h' => hc (barCell_inj h'.1).symm, if_neg fun h' => hc h'.2]
  · rw [if_neg h, if_neg fun h' => h h'.1]; rfl

/-- A signal owes nothing to a receive cell. -/
theorem sigO_recv (d c : Dev nD) (r r' : Fin 4) : sigO d r (recvCell c r') () = 0 := by
  unfold sigO
  by_cases h : hasDn d r
  · rw [if_pos h, tallyAt_ne_cell fun h' => dma_ne_bar _ (congrArg Prod.snd h')]; rfl
  · rw [if_neg h]; rfl

/-- A copy owes nothing to a barrier cell. -/
theorem sndO_bar (d c : Dev nD) (r : Fin 4) : sndO d r (barCell c) () = 0 := by
  unfold sndO
  by_cases h : hasUp d r
  · rw [if_pos h, tallyAt_ne_cell fun h' => dma_ne_bar _ (congrArg Prod.snd h').symm]; rfl
  · rw [if_neg h]; rfl

/-- What the copy of `d` at distance `r` owes a receive cell. -/
theorem sndO_recv (d c : Dev nD) (r r' : Fin 4) : sndO d r (recvCell c r') () = N * if hasUp d r ∧ up d r = c ∧ r = r' then 1 else 0 := by
  unfold sndO
  by_cases h : hasUp d r
  · rw [if_pos h, tallyAt_apply]
    by_cases hc : up d r = c ∧ r = r'
    · rw [if_pos ⟨by rw [hc.1, hc.2], rfl⟩, if_pos ⟨h, hc⟩, Nat.mul_one]
    · rw [if_neg fun h' => hc ((recvCell_inj h'.1).imp Eq.symm Eq.symm), if_neg fun h' => hc h'.2, Nat.mul_zero]
  · rw [if_neg h, if_neg fun h' => h h'.1, Nat.mul_zero]; rfl

/-- A device's debts, one by one. -/
theorem owed_split (d : Dev nD) (g : GSem nD τ sig) :
    O₀ d g () = sndO d 3 g () + sndO d 2 g () + sndO d 1 g () + sigO d 3 g () + sigO d 2 g () + sigO d 1 g () := rfl

/-- All devices together owe a barrier cell one unit for every device behind its own. -/
theorem owed_bar (c : Dev nD) : ∑ d : Dev nD, O₀ d (barCell c) () = behind c := by
  simp only [owed_split, sigO_bar, sndO_bar]
  revert c; decide

/-- All devices together owe a receive cell a row's credit, where a copy comes. -/
theorem owed_recv (c : Dev nD) (r : Fin 4) : ∑ d : Dev nD, O₀ d (recvCell c r) () = N * if hasDn c r then 1 else 0 := by
  simp only [owed_split, sigO_recv, sndO_recv, Nat.add_zero, ← Nat.mul_add, ← Finset.mul_sum]
  congr 1
  revert c r; decide

/-- So the launch gives a barrier cell that credit, -/
theorem launch_bar (c : Dev nD) :
    tallyOn (barCell c) (launchCredit (Pipeline.owing O₀) 0 (barCell c)) = (tallyAt (barCell c) () (behind c) : CellTallies nD τ sig Unit) := by
  unfold tallyAt; refine congrArg _ (Finsupp.ext fun u => ?_); cases u
  rw [Pipeline.launchCredit_owing, Finsupp.single_eq_same, owed_bar]

/-- and a receive cell that one. -/
theorem launch_recv (c : Dev nD) (r : Fin 4) (h : hasDn c r) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, owed_recv, if_pos h, Nat.mul_one]

/-- The launch's credit of a receive cell, in the form the body uses. -/
theorem launch_recvCred (c : Dev nD) (r : Fin 4) :
    (cred (tallyOn (recvCell c r) (launchCredit (Pipeline.owing O₀) 0 (recvCell c r))) : sProp 𝕄) ⊢ recvCred c r := by
  unfold recvCred
  by_cases h : hasDn c r
  · rw [if_pos h, launch_recv c r h]
  · rw [if_neg h]
    iintro -
    iempintro

/-- The four cells of a device that others owe to at launch. -/
def owedSems : Finset (SemLoc sig) := {.reg barS, .dma (recvSem 1), .dma (recvSem 2), .dma (recvSem 3)}

/-- The launch's credit of a device is what its body waits with. -/
theorem creds (c : Dev nD) : (Pipeline.launchCred O₀ c : sProp 𝕄) ⊢ credsOf c := by
  unfold Pipeline.launchCred credsOf
  rw [bigSep_part (Finset.subset_univ owedSems),
    bigSep_eq_bigSepL_of_eq (S := owedSems) [SemLoc.reg barS, .dma (recvSem 1), .dma (recvSem 2), .dma (recvSem 3)] (by decide) (by decide)]
  show iprop((cred (tallyOn (barCell c) (launchCredit (Pipeline.owing O₀) 0 (barCell c)))
      ∗ cred (tallyOn (recvCell c 1) (launchCredit (Pipeline.owing O₀) 0 (recvCell c 1)))
      ∗ cred (tallyOn (recvCell c 2) (launchCredit (Pipeline.owing O₀) 0 (recvCell c 2)))
      ∗ cred (tallyOn (recvCell c 3) (launchCredit (Pipeline.owing O₀) 0 (recvCell c 3)))) ∗ _) ⊢ _
  rw [launch_bar]
  iintro ⟨⟨HB, H1, H2, H3⟩, -⟩
  isplitl [HB]; · iexact HB
  isplitl [H1]; · iapply (launch_recvCred c 1); iexact H1
  isplitl [H2]; · iapply (launch_recvCred c 2); iexact H2
  iapply (launch_recvCred c 3); iexact H3

/-! ## The launch's side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the scratch buffer, that is the assertion before the grid's point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, Hr⟩
  isplitl [Hs]; · iexact Hs
  iexact Hr

/-- The assertion after it gives the semaphores back at zero, and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scrPts
  rw [closed_eq]
  iintro ⟨Hr, HB, Ho⟩
  isplitl [HB]; · iexact HB
  isplitl [Ho]; · iexact Ho
  iexact Hr

/-- The waits of the staging copies are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, for any float values, from any memory with zero counters: every weakly fair execution of
    `@main` terminates, nothing faulting, with each device's arrays at the computed contents and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ScanProof

end
-- ==== Proof.RefSum.lean ====
/-
# `RefSum`: the reference's window sum, column by column

The reference slides a window of 8192 rows, padded by 8191 rows above, down the array: entry `(i, j)` of its
result is the sum of the entries of column `j` in rows `0 … i`.
-/
module

public import proofs.«01_k».proof.Proof.Gen.ReferenceIdeal
public import proofs.«01_k».proof.Proof.Gen.ReferenceIdeal.Run
public import Idealize.ShloMosaic.PureOps.Ideal
public import Idealize.ShloMosaic.PureOps.Ideal.Laws
@[expose] public section

noncomputable section

namespace Cert.ScanProof

open Idealize.ShloMosaic

/-- The shape of the whole array. -/
abbrev SX : Shape := ⟨2, ![8192, 1024]⟩

/-- The index of row `i`, column `j`. -/
def at2 (i : Fin 8192) (j : Fin 1024) : SX.Idx := fun a => match a with
  | 0 => (i : Fin 8192)
  | 1 => (j : Fin 1024)

/-- An index with these two coordinates is `at2`. -/
theorem at2_eq (y : SX.Idx) (i : Fin 8192) (j : Fin 1024) (h0 : (y 0).val = i.val) (h1 : (y 1).val = j.val) : y = at2 i j := by
  funext a
  match a with
  | 0 => exact Fin.ext h0
  | 1 => exact Fin.ext h1

/-- The entry of `A` in row `n` and column `j`; zero where there is no row `n`. -/
def ent (A : SX.Idx → EReal) (j : Fin 1024) (n : ℕ) : EReal := if h : n < 8192 then A (at2 ⟨n, h⟩ j) else 0

/-- The sum of the first `n` entries of column `j`. -/
def pre (A : SX.Idx → EReal) (j : Fin 1024) (n : ℕ) : EReal := ∑ q ∈ Finset.range n, ent A j q

/-- A sum of `n` entries following the first `k` makes the sum of the first `k + n`. -/
theorem pre_add (A : SX.Idx → EReal) (j : Fin 1024) (k n : ℕ) :
    pre A j (k + n) = pre A j k + ∑ q ∈ Finset.range n, ent A j (k + q) := Finset.sum_range_add _ _ _

/-- The sum of no entries is zero. -/
theorem pre_zero (A : SX.Idx → EReal) (j : Fin 1024) : pre A j 0 = 0 := Finset.sum_range_zero _

/-- Adding up a list from the left is its starting value plus its sum. -/
theorem foldl_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- Over all positions of a window of `n` rows. -/
theorem finRange_sum (n : ℕ) (g : ℕ → EReal) : ((List.finRange n).map fun k => g k.val).sum = ∑ k ∈ Finset.range n, g k := by
  rw [Finset.sum_range, ← List.ofFn_eq_map, List.sum_ofFn]

/-- The window at row `p`: its first `M - p` positions are padding, and the rest are rows `0 … p`. -/
theorem window_sum (f : ℕ → EReal) (M p : ℕ) (hp : p ≤ M) :
    (∑ w ∈ Finset.range (M + 1), if M ≤ p + w then f (p + w - M) else 0) = ∑ k ∈ Finset.range (p + 1), f k := by
  obtain ⟨d, rfl⟩ : ∃ d, M = d + p := ⟨M - p, by omega⟩
  rw [Nat.add_assoc, Finset.sum_range_add, Finset.sum_eq_zero, zero_add]
  · refine Finset.sum_congr rfl fun k hk => ?_
    rw [if_pos (by omega)]
    exact congrArg f (by omega)
  · intro w hw
    have := Finset.mem_range.mp hw
    rw [if_neg (by omega)]

/-- The shape of the window. -/
abbrev W : Shape := ⟨2, ![8192, 1]⟩

/-- Position `n` of the window is its row `n`. -/
theorem W_symm (n : Fin W.numel) : (W.rowMajor.symm n 0).val = n.val ∧ (W.rowMajor.symm n 1).val = 0 := by
  have h1 : (W.rowMajor.symm n 1).val = 0 := by
    have := (W.rowMajor.symm n 1).isLt
    change _ < 1 at this
    omega
  refine ⟨?_, h1⟩
  have h := congrArg Fin.val (W.rowMajor.apply_symm_apply n)
  rw [Shape.rowMajor_val_two] at h
  rw [h1] at h
  change (W.rowMajor.symm n 0).val * 1 + 0 = n.val at h
  omega

/-- The reference's result at row `y 0`, column `y 1`. -/
theorem ref_sum (A : SX.Idx → EReal) (h : SX.ReduceWindows ![8192, 1] ![1, 1] ![8191, 0] ![0, 0] SX) (y : SX.Idx) :
    Ideal.hostReduceWindowAdd ![8192, 1] ![1, 1] ![8191, 0] ![0, 0] h A 0 y = pre A (y 1) ((y 0).val + 1) := by
  have hy : (y 0).val < 8192 := (y 0).isLt
  have hy1 : (y 1).val < 1024 := (y 1).isLt
  unfold Ideal.hostReduceWindowAdd Host.reduceWindow
  refine (foldl_sum _ _ _).trans ?_
  refine (zero_add _).trans ?_
  refine Eq.trans ?_ (window_sum (ent A (y 1)) 8191 (y 0).val (by omega))
  refine Eq.trans ?_ (finRange_sum 8192 fun w => if 8191 ≤ (y 0).val + w then ent A (y 1) ((y 0).val + w - 8191) else 0)
  refine congrArg List.sum (List.map_congr_left fun n _ => ?_)
  obtain ⟨hw0, hw1⟩ := W_symm n
  have hn : n.val < 8192 := n.isLt
  dsimp only
  split
  · next hin =>
    have h0 := hin 0
    change 8191 ≤ (y 0).val * 1 + (W.rowMajor.symm n 0).val ∧ (y 0).val * 1 + (W.rowMajor.symm n 0).val - 8191 < 8192 at h0
    rw [hw0] at h0
    rw [if_pos (by omega)]
    unfold ent
    rw [dif_pos (by omega)]
    refine congrArg A (at2_eq _ _ _ ?_ ?_)
    · show (y 0).val * 1 + (W.rowMajor.symm n 0).val - 8191 = (y 0).val + n.val - 8191
      rw [hw0, Nat.mul_one]
    · show (y 1).val * 1 + (W.rowMajor.symm n 1).val - 0 = (y 1).val
      rw [hw1]
      omega
  · next hin =>
    rw [if_neg fun hle => hin fun a => by
      match a with
      | 0 =>
        show 8191 ≤ (y 0).val * 1 + (W.rowMajor.symm n 0).val ∧ (y 0).val * 1 + (W.rowMajor.symm n 0).val - 8191 < 8192
        rw [hw0]
        omega
      | 1 =>
        show 0 ≤ (y 1).val * 1 + (W.rowMajor.symm n 1).val ∧ (y 1).val * 1 + (W.rowMajor.symm n 1).val - 0 < 1024
        rw [hw1]
        omega]

end Cert.ScanProof

end
-- ==== Proof.Value.lean ====
/-
# `Value`: what the kernel stores, with exact arithmetic

With `A` the whole array and `pre A j n` the sum of the first `n` entries of its column `j`: before its block `n`
of 256 rows device `c` carries `pre A j (2048 c + 256 n)`, and the entry that it stores in row `i`, column `j` is
`pre A j (2048 c + i + 1)`.
-/
module

public import proofs.«01_k».proof.Proof.Body
public import proofs.«01_k».proof.Proof.RefSum
public import Idealize.ShloMosaic.Lib.Pipeline.Value
public import Idealize.ShloMosaic.Lib.WordCmp
@[expose] public section

noncomputable section

namespace Cert.ScanProof

open Cert.KernelIdeal Cert.KernelIdeal.Gen

open Idealize.ShloMosaic
open Idealize.ShloMosaic.TcCoe

variable (m : (ℓ : Loc nD τ sig) → Buf (Elt Ideal) ℓ) (ρ : Dev nD → PrngReg)

/-! ## Indices -/

/-- Row `i`, column `j` of a device's block. -/
def atX (i : Fin 2048) (j : Fin 1024) : S2048x1024.Idx := fun a => match a with
  | 0 => (i : Fin 2048)
  | 1 => (j : Fin 1024)
/-- Row `i`, column `j` of a block of 256 rows. -/
def atB (i : Fin 256) (j : Fin 1024) : S256x1024.Idx := fun a => match a with
  | 0 => (i : Fin 256)
  | 1 => (j : Fin 1024)
/-- Row `i`, column `k` of the triangle. -/
def atT (i k : Fin 256) : S256x256.Idx := fun a => match a with
  | 0 => (i : Fin 256)
  | 1 => (k : Fin 256)
/-- Column `j` of a row. -/
def atR (j : Fin 1024) : S1x1024.Idx := fun a => match a with
  | 0 => (0 : Fin 1)
  | 1 => (j : Fin 1024)
/-- Column `j` of a row of sums. -/
def atS (j : Fin 1024) : S1x1x1024.Idx := fun a => match a with
  | 0 => (0 : Fin 1)
  | 1 => (0 : Fin 1)
  | 2 => (j : Fin 1024)
/-- Entry `j` of a vector. -/
def atV (j : Fin 1024) : S1024.Idx := fun a => match a with
  | 0 => (j : Fin 1024)

/-! ## The operations -/

/-- The triangle has a one where its column is at most its row, and a zero elsewhere. -/
theorem tri_val (i k : Fin 256) : (k0_pay3 (F := Ideal)) (atT i k) = if k.val ≤ i.val then (1 : EReal) else 0 := by
  have e : (k0_pay3 (F := Ideal)) (atT i k)
      = ((((IntOp.cmpi .sge (iota .tc S256x256 32 [0] iota_S256x256_d0_w32 (atT i k)) (iota .tc S256x256 32 [1] iota_S256x256_d1_w32 (atT i k))).setWidth 32 : BitVec 32).toInt : ℝ) : EReal) := rfl
  rw [e, iota_single_apply, iota_single_apply]
  show ((((IntOp.cmpi .sge (BitVec.ofNat 32 i.val) (BitVec.ofNat 32 k.val)).setWidth 32 : BitVec 32).toInt : ℝ) : EReal) = _
  have hi := i.isLt
  have hk := k.isLt
  rw [WordCmp.cmpi_sge_ofNat (by omega) (by omega)]
  by_cases h : k.val ≤ i.val
  · rw [if_pos h, decide_eq_true h]
    have : ((BitVec.ofBool true).setWidth 32 : BitVec 32).toInt = 1 := by decide
    rw [this]; simp
  · rw [if_neg h, decide_eq_false h]
    have : ((BitVec.ofBool false).setWidth 32 : BitVec 32).toInt = 0 := by decide
    rw [this]; simp

/-- The column sums of a block. -/
theorem pay1_val (v : Vec Ideal S2048x1024 .bf16) (j : Fin 1024) : k0_pay1 v (atS j) = ∑ k : Fin 2048, v (atX k j) := by
  unfold k0_pay1
  refine (shapeCast_apply _ _ _ (atR j) ?_).trans ?_
  · rw [Shape.rowMajor_val_two, Shape.rowMajor_val_three]; rfl
  refine (shapeCast_apply _ _ _ (atV j) ?_).trans ?_
  · rw [Shape.rowMajor_val_two, Shape.rowMajor_val_one]; show j.val = 0 * 1024 + j.val; omega
  refine (Ideal.multiReduction_add_single _ _ _ _ _ _).trans ?_
  refine Finset.sum_congr rfl fun k _ => ?_
  refine (shapeCast_apply v _ _ (atX k j) ?_)
  refine congrArg (fun z => (Shape.rowMajor S2048x1024 z).val) (funext fun a => Fin.ext ?_)
  match a with
  | 0 => rfl
  | 1 => rfl

abbrev DT := dot_S256x256_S256x1024_S256x1024_1_0_0_1_n_n

/-- The contracted indices are the triangle's 256 columns. -/
def contrT : DT.contr.Idx ≃ Fin 256 where
  toFun k := (k ⟨0, by decide⟩).cast (by decide)
  invFun i := fun a => i.cast (by
    have : a = ⟨0, by decide⟩ := Fin.ext (by have := a.isLt; simp [DotDims.contr, Shape.ofList, DT, dot_S256x256_S256x1024_S256x1024_1_0_0_1_n_n] at this; omega)
    subst this; decide)
  left_inv k := by
    funext a
    have : a = ⟨0, by decide⟩ := Fin.ext (by have := a.isLt; simp [DotDims.contr, Shape.ofList, DT, dot_S256x256_S256x1024_S256x1024_1_0_0_1_n_n] at this; omega)
    subst this; simp
  right_inv i := by simp

/-- The triangle's index under a product's entry and a contracted index. -/
theorem lhsT (y : S256x1024.Idx) (k : DT.contr.Idx) : DT.lhsIdx y k = atT (y 0) (contrT k) := by
  funext a
  match a with
  | 0 => exact Fin.ext (by simp [DotDims.lhsIdx, DT, dot_S256x256_S256x1024_S256x1024_1_0_0_1_n_n]; rfl)
  | 1 => exact Fin.ext (by simp [DotDims.lhsIdx, DT, dot_S256x256_S256x1024_S256x1024_1_0_0_1_n_n]; rfl)
/-- The block's index under them. -/
theorem rhsT (y : S256x1024.Idx) (k : DT.contr.Idx) : DT.rhsIdx y k = atB (contrT k) (y 1) := by
  funext a
  match a with
  | 0 => exact Fin.ext (by simp [DotDims.rhsIdx, DT, dot_S256x256_S256x1024_S256x1024_1_0_0_1_n_n]; rfl)
  | 1 => exact Fin.ext (by simp [DotDims.rhsIdx, DT, dot_S256x256_S256x1024_S256x1024_1_0_0_1_n_n]; rfl)

/-- A sum of which only the first `n` of `n + d` terms count. -/
theorem head_sum (f : ℕ → EReal) (n d : ℕ) :
    (∑ k ∈ Finset.range (n + d), (if k < n then (1 : EReal) else 0) * f k) = ∑ k ∈ Finset.range n, f k := by
  rw [Finset.sum_range_add]
  have h2 : (∑ k ∈ Finset.range d, (if n + k < n then (1 : EReal) else 0) * f (n + k)) = 0 :=
    Finset.sum_eq_zero fun k _ => by rw [if_neg (by omega), zero_mul]
  rw [h2, add_zero]
  refine Finset.sum_congr rfl fun k hk => ?_
  have := Finset.mem_range.mp hk
  rw [if_pos (by omega), one_mul]

/-- A sum against the triangle's row `i` stops after term `i`. -/
theorem tri_sum (f : ℕ → EReal) (i : Fin 256) :
    (∑ k : Fin 256, (if k.val ≤ i.val then (1 : EReal) else 0) * f k.val) = ∑ k ∈ Finset.range (i.val + 1), f k := by
  rw [Fin.sum_univ_eq_sum_range (fun k => (if k ≤ i.val then (1 : EReal) else 0) * f k) 256, ← head_sum f (i.val + 1) (255 - i.val)]
  have e : i.val + 1 + (255 - i.val) = 256 := by have := i.isLt; omega
  rw [e]
  simp only [Nat.lt_succ_iff]

/-- A block of running sums: the first rows of the block, and what is carried in. -/
theorem pay7_val (u : FVec Ideal S1x1024 .f32) (v : Vec Ideal S256x1024 .bf16) (f : ℕ → EReal) (i : Fin 256) (j : Fin 1024)
    (hv : ∀ k : Fin 256, v (atB k j) = f k.val) :
    k0_pay7 (F := Ideal) k0_pay3 u v (atB i j) = (∑ k ∈ Finset.range (i.val + 1), f k) + u (atR j) := by
  rw [← tri_sum]
  unfold k0_pay7
  refine congrArg₂ (fun a b : EReal => a + b) ?_ ?_
  · simp only [matmul]
    refine (Ideal.matmul_constant_zero_apply _ none _ _ _).trans ?_
    refine (Equiv.sum_comp contrT.symm _).symm.trans ?_
    refine Finset.sum_congr rfl fun k _ => ?_
    rw [lhsT, rhsT, Equiv.apply_symm_apply]
    refine congrArg₂ (fun a b : EReal => a * b) (tri_val i k) ?_
    refine Eq.trans ?_ (hv k)
    exact shapeCast_apply v _ _ (atB k j) rfl
  · refine broadcastTo_apply u _ _ (atR j) fun a => ?_
    match a with
    | 0 => rfl
    | 1 => rfl

/-! ## The device's sums -/

variable (A : SX.Idx → EReal)

/-- Block `b` of 256 rows, read from the device's rows. -/
theorem xblk_val (c : Dev nD) (b : Fin 8) (k : Fin 256) (j : Fin 1024) :
    xblk m ρ c b (atB k j) = xstg m ρ c (atX ⟨256 * b.val + k.val, by have := b.isLt; have := k.isLt; omega⟩ j) := by
  refine (show xblk m ρ c b (atB k j) = xstg m ρ c ((xR b).emb (atB k j)) from rfl).trans ?_
  refine congrArg (xstg m ρ c) (funext fun a => Fin.ext ?_)
  rw [Rect.emb_apply]
  match a with
  | 0 => show 256 * b.val + 1 * k.val = 256 * b.val + k.val; omega
  | 1 => show 0 + 1 * j.val = j.val; omega

/-- Device `c` holds rows `2048 c …` of the array. -/
def Holds : Prop := ∀ (c : Dev nD) (i : Fin 2048) (j : Fin 1024), xstg m ρ c (atX i j) = ent A j (2048 * c.val + i.val)

/-- The sum of column `j` over device `d`'s rows. -/
def colSum (j : Fin 1024) (d : ℕ) : EReal := ∑ q ∈ Finset.range 2048, ent A j (2048 * d + q)

/-- The rows up to the next device's are those up to this one's, and this one's. -/
theorem pre_dev (j : Fin 1024) (d : ℕ) : pre A j (2048 * (d + 1)) = pre A j (2048 * d) + colSum A j d := pre_add A j (2048 * d) 2048

/-- The row a device copies out holds its column sums. -/
theorem tot_val (H : Holds m ρ A) (c : Dev nD) (j : Fin 1024) : tot m ρ c (atS j) = colSum A j c.val := by
  refine (pay1_val _ j).trans ?_
  unfold colSum
  rw [Finset.sum_range]
  exact Finset.sum_congr rfl fun k _ => H c k j

/-- What slot `r` adds to the row carried in: the sums of the device `r` places in front, if there is one. -/
theorem masked_val (H : Holds m ρ A) (c : Dev nD) (r : Fin 4) (hr : 1 ≤ r.val) (j : Fin 1024) :
    masked c r (sl m ρ c r) (atR j) = if r.val ≤ c.val then colSum A j (c.val - r.val) else 0 := by
  by_cases h : r.val ≤ c.val
  · rw [if_pos h]
    have hd : hasDn c r := ⟨hr, h⟩
    unfold masked sl
    rw [dnBit_of c r hr hd, if_pos hd]
    refine (show _ = shapeCast S1x1024 (tot m ρ (dn c r)) shapeCasts_S1x1x1024_S1x1024 (atR j) from rfl).trans ?_
    refine (shapeCast_apply _ _ _ (atS j) ?_).trans ?_
    · rw [Shape.rowMajor_val_two, Shape.rowMajor_val_three]; rfl
    refine (tot_val m ρ A H _ j).trans (congrArg (colSum A j) ?_)
    have hc : c.val < 4 := c.isLt
    have hr4 := r.isLt
    show (c.val + (4 - r.val)) % 4 = c.val - r.val
    omega
  · rw [if_neg h]
    unfold masked
    rw [dnBit_of_not c r hr fun h' => h h'.2]
    exact Ideal.ofBits_zero_f32

/-- The sums of the devices in front of device `d`, nearest first, add up to the sum of all the rows in front of it. -/
theorem front_sum (j : Fin 1024) (d : ℕ) (hd : d < 4) :
    ((if 1 ≤ d then colSum A j (d - 1) else 0) + (if 2 ≤ d then colSum A j (d - 2) else 0)) + (if 3 ≤ d then colSum A j (d - 3) else 0)
      = pre A j (2048 * d) := by
  have hp0 : pre A j (2048 * 0) = 0 := pre_zero A j
  have hp1 := pre_dev A j 0
  have hp2 := pre_dev A j 1
  have hp3 := pre_dev A j 2
  generalize colSum A j = t at *
  obtain rfl | rfl | rfl | rfl : d = 0 ∨ d = 1 ∨ d = 2 ∨ d = 3 := by omega
  · rw [hp0]; simp
  · rw [show 1 = 0 + 1 from rfl, hp1, hp0]; simp
  · rw [show pre A j (2048 * 2) = _ from hp2, show pre A j (2048 * 1) = _ from hp1, hp0]; simp [add_comm]
  · rw [show pre A j (2048 * 3) = _ from hp3, show pre A j (2048 * 2) = _ from hp2, show pre A j (2048 * 1) = _ from hp1, hp0]
    simp only [Nat.reduceLeDiff, Nat.reduceSub, if_true, zero_add]; ac_rfl

/-- The row carried into a device's first block: the sums of all the rows in front of the device. -/
theorem carry_zero (H : Holds m ρ A) (c : Dev nD) (j : Fin 1024) : carry m ρ c 0 (atR j) = pre A j (2048 * c.val) := by
  have e : carry m ρ c 0 (atR j)
      = ((((Ideal.ofBits .f32 0x00000000#32 : EReal) + masked c 1 (sl m ρ c 1) (atR j)) + masked c 2 (sl m ρ c 2) (atR j)) + masked c 3 (sl m ρ c 3) (atR j) : EReal) := rfl
  rw [e, masked_val m ρ A H c 1 (by decide), masked_val m ρ A H c 2 (by decide), masked_val m ρ A H c 3 (by decide), Ideal.ofBits_zero_f32, zero_add]
  exact front_sum A j c.val c.isLt

/-- Block `n` of a device, given the row carried into it. -/
theorem blk_of_carry (H : Holds m ρ A) (c : Dev nD) (n : ℕ) (hn : n < 8) (j : Fin 1024)
    (hc : carry m ρ c n (atR j) = pre A j (2048 * c.val + 256 * n)) (i : Fin 256) :
    blk m ρ c n (atB i j) = pre A j (2048 * c.val + 256 * n + (i.val + 1)) := by
  rw [pre_add, ← hc]
  refine (pay7_val _ _ (fun q => ent A j (2048 * c.val + 256 * n + q)) i j fun k => ?_).trans (add_comm _ _)
  rw [xblk_val, H]
  refine congrArg (ent A j) ?_
  show 2048 * c.val + (256 * (n % 8) + k.val) = 2048 * c.val + 256 * n + k.val
  omega

/-- The last row of a block of 256. -/
theorem last_row (v : FVec Ideal S256x1024 .f32) (j : Fin 1024) :
    extractStridedSlice S1x1024 ![255, 0] v slices_S256x1024_o255_0_S1x1024 (atR j) = v (atB (255 : Fin 256) j) := by
  refine extractStridedSlice_apply _ v _ _ _ fun a => ?_
  match a with
  | 0 => rfl
  | 1 => show j.val = 0 + j.val; omega

/-- The row carried into block `n` of a device: the sums of all the rows in front of that block. -/
theorem carry_val (H : Holds m ρ A) (c : Dev nD) (j : Fin 1024) (n : ℕ) (hn : n ≤ 8) :
    carry m ρ c n (atR j) = pre A j (2048 * c.val + 256 * n) := by
  induction n with
  | zero => exact carry_zero m ρ A H c j
  | succ n ih =>
    have h := blk_of_carry m ρ A H c n (by omega) j (ih (by omega)) (255 : Fin 256)
    refine (last_row (blk m ρ c n) j).trans (h.trans ?_)
    exact congrArg (pre A j) (show 2048 * c.val + 256 * n + (255 + 1) = 2048 * c.val + 256 * (n + 1) by omega)

/-- Row `y 0`, column `y 1` of what device `c` stores: the sum of column `y 1` up to that row of the whole array. -/
theorem outAt_val (H : Holds m ρ A) (c : Dev nD) (y : S2048x1024.Idx) :
    outAt m ρ c y = pre A (y 1) (2048 * c.val + (y 0).val + 1) := by
  have hy : (y 0).val < 2048 := (y 0).isLt
  refine (show outAt m ρ c y = blk m ρ c ((y 0).val / 256) (inBlk y) from rfl).trans ?_
  have e : inBlk y = atB ⟨(y 0).val % 256, Nat.mod_lt _ (by decide)⟩ (y 1) := by
    funext a
    match a with
    | 0 => rfl
    | 1 => rfl
  rw [e, blk_of_carry m ρ A H c _ (by omega) (y 1) (carry_val m ρ A H c (y 1) _ (by omega))]
  refine congrArg (pre A (y 1)) ?_
  show 2048 * c.val + 256 * ((y 0).val / 256) + ((y 0).val % 256 + 1) = 2048 * c.val + (y 0).val + 1
  omega

end Cert.ScanProof

end
-- ==== Proof.Algebra.lean ====
/-
# `Algebra`: the kernel's result is the reference's, block by block
-/
module

public import proofs.«01_k».proof.Defs
public import proofs.«01_k».proof.Proof.Gen.Kernel
public import proofs.«01_k».proof.Proof.RunMain
public import proofs.«01_k».proof.Proof.Value
public import Idealize.ShloMosaic.Lib.Quiescent
public import Idealize.ShloMosaic.Lib.Pointwise.Tactic
@[expose] public section

noncomputable section

namespace Cert.ScanProof

open Cert.KernelIdeal Cert.KernelIdeal.Gen

open Idealize.ShloMosaic
open Idealize.ShloMosaic.TcCoe
open Idealize.SL.Sem

section Arrays
variable {F : FTy → Type} [FloatOps F]
variable (m : (ℓ : Loc nD τ sig) → Buf (Elt F) ℓ) (ρ : Dev nD → PrngReg)

/-- The staged block is the device's argument array: the window's one block is the whole array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array after the run is what the body stored. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  show (win0_1.blk (0 : Fin 1)).view.read (Elt F) (finalA m ρ c (1 : Fin 2)) = outAt m ρ c
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Arrays

variable (A : SX.Idx → EReal)

/-- Row `i` of device `c`'s block of an array is row `2048 c + i` of the array. -/
theorem block_row {α : Type} (v : SX.Idx → α) (c : Fin 4) (y : S2048x1024.Idx)
    (h : Layout.Tiles ⟨2, ![2048, 1024]⟩ ⟨2, ![8192, 1024]⟩ 0 4) :
    Layout.block ⟨2, ![2048, 1024]⟩ ⟨2, ![8192, 1024]⟩ 0 4 c v h y
      = v (at2 ⟨2048 * c.val + (y 0).val, by have := c.isLt; have h : (y 0).val < 2048 := (y 0).isLt; omega⟩ (y 1)) := by
  rw [Layout.block_apply]
  refine congrArg v (at2_eq _ _ _ ?_ ?_)
  · show c.val * 2048 + (y 0).val = 2048 * c.val + (y 0).val
    omega
  · rfl

/-- The running sums down every column of `A`. -/
def runs : SX.Idx → EReal := fun y => pre A (y 1) ((y 0).val + 1)

/-- The reference's window sum is the running sums. -/
theorem ref_runs (z : FVec Ideal Cert.ReferenceIdeal.S_ .bf16)
    (hz : ∀ i, z i = (0 : EReal)) :
    Host.reduceWindowAdd (F := Ideal) (φ := .bf16) ![8192, 1] ![1, 1] ![8191, 0] ![0, 0] A z
      Cert.ReferenceIdeal.Gen.facts.reduceWindows_S8192x1024_S8192x1024_w8192s1p8191_0_w1s1p0_0 Cert.ReferenceIdeal.Gen.facts.h_S_ = runs A := by
  funext y
  unfold Host.reduceWindowAdd
  rw [Ideal.hostReduceWindowAdd_def, hz]
  exact ref_sum A _ y

set_option maxHeartbeats 2000000 in
/-- The two programs have the same text, so the same body … -/
theorem body_same : @Cert.Kernel.cc0_body Bits _ _ = @Cert.KernelIdeal.cc0_body Bits _ _ := rfl

/-- … the same table of bodies … -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    exact congrArg (fun f => f (win0_0.stage (s 0)) (hstage0_0 0) (win0_1.stage (s 1)) (hstage0_1 0) (Memref.whole cc0_scratch0)
      (Memref.isWhole_whole _) cc0_scratch1 cc0_scratch2) body_same

/-- … and the same labels. -/
theorem defs_same : Cert.Kernel.defs (F := Bits) = Cert.KernelIdeal.defs (F := Bits) :=
  congrArg (Pipeline.defs Cert.Kernel.pcfgs) defs₀_same

/-- `Cert.quiescent_Kernel`: the program as printed, at the bit-exact values. -/
theorem frame_kernel : Cert.quiescent_Kernel := by
  intro m ρ _
  rw [defs_same]
  exact (θ_run Cert.KernelIdeal.defs (onTc (τ := τ) (main (F := Bits))) (s₀ m ρ)).mono
    (fun _ h => ⟨fun c => (h.1 c (0 : Fin 2)).trans (finalA_x m ρ c), h.2⟩) (run_main (F := Bits) m ρ)

/-- `Cert.quiescent_KernelIdeal`: the same run at exact values. -/
theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- `Cert.quiescent_ReferenceIdeal`: the reference runs, leaves its argument alone and has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.algebraic_KernelIdeal_ReferenceIdeal`: with exact arithmetic every device ends with its block of the running
    sums down the columns of the whole array, which is what the reference computes. -/
theorem algebraic : Cert.algebraic_KernelIdeal_ReferenceIdeal := by
  intro m ρ m' ρ' _ hagree
  refine ⟨runs (m' (((0 : Dev Cert.ReferenceIdeal.nD).tc : Thread _ Cert.ReferenceIdeal.τ).loc Cert.ReferenceIdeal.main_arg0)), ?_, ?_⟩
  · refine (θ_run defs _ _).mono
      (fun _ h c => ⟨(h.1 c (1 : Fin 2)).trans ?_, (h.1 c (0 : Fin 2)).trans (finalA_x m ρ c)⟩)
      (run_main (F := Ideal) m ρ)
    generalize m' (((0 : Dev Cert.ReferenceIdeal.nD).tc : Thread _ Cert.ReferenceIdeal.τ).loc Cert.ReferenceIdeal.main_arg0) = B at hagree
    have H : Holds m ρ B := fun c i j => by
      rw [xstg_eq, hagree c]
      refine (block_row B c (atX i j) _).trans ?_
      unfold ent
      have hc : c.val < 4 := c.isLt
      have hi := i.isLt
      rw [dif_pos (by omega)]
      rfl
    rw [finalA_out]
    funext y
    rw [outAt_val m ρ B H c y]
    exact (block_row (runs B) c y _).symm
  · refine (θ_run Cert.ReferenceIdeal.defs _ _).mono (fun r h => ⟨(h 0).1.trans ?_, (h 0).2⟩) (Cert.ReferenceIdeal.Value.run (F := Ideal) m' ρ')
    exact ref_runs _ _ fun _ => Ideal.ofBits_zero .bf16

end Cert.ScanProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunMain
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The three programs run, leave their arguments and end quiescent; the idealization rewrote nothing; and with exact
    arithmetic each device's result is its block of the reference's. -/
theorem claim : Cert.Claim := ⟨Cert.Kernel.Gen.facts, Cert.KernelIdeal.Gen.facts, Cert.ReferenceIdeal.Gen.facts,
  Cert.ScanProof.frame_kernel, Cert.ScanProof.frame_ideal, Cert.ScanProof.frame_ref, trivial, Cert.ScanProof.algebraic⟩

end Cert.Proof

end
